-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x32x64 : Shape := ⟨4, ![3, 512, 32, 64]⟩
abbrev S3x512x32 : Shape := ⟨3, ![3, 512, 32]⟩
abbrev S3 : Shape := ⟨1, ![3]⟩
abbrev S3x32x64x512 : Shape := ⟨4, ![3, 32, 64, 512]⟩
abbrev S3x32x512x64 : Shape := ⟨4, ![3, 32, 512, 64]⟩
abbrev S3x32x512 : Shape := ⟨3, ![3, 32, 512]⟩
abbrev S3x32x1x512 : Shape := ⟨4, ![3, 32, 1, 512]⟩
abbrev S3x32x16x512 : Shape := ⟨4, ![3, 32, 16, 512]⟩
abbrev S1x1x64x512 : Shape := ⟨4, ![1, 1, 64, 512]⟩
abbrev S1x1x512x64 : Shape := ⟨4, ![1, 1, 512, 64]⟩
abbrev S1x1x1x512 : Shape := ⟨4, ![1, 1, 1, 512]⟩
abbrev S1x1x16x512 : Shape := ⟨4, ![1, 1, 16, 512]⟩
abbrev S1 : Shape := ⟨1, ![1]⟩
abbrev S1x512 : Shape := ⟨2, ![1, 512]⟩
abbrev S128x512 : Shape := ⟨2, ![128, 512]⟩
abbrev S512x128 : Shape := ⟨2, ![512, 128]⟩
abbrev S512x1 : Shape := ⟨2, ![512, 1]⟩
abbrev S1x256 : Shape := ⟨2, ![1, 256]⟩
abbrev S64x512 : Shape := ⟨2, ![64, 512]⟩
abbrev S512x64 : Shape := ⟨2, ![512, 64]⟩
abbrev S1x1x64x256 : Shape := ⟨4, ![1, 1, 64, 256]⟩
abbrev S64x256 : Shape := ⟨2, ![64, 256]⟩
abbrev S512x256 : Shape := ⟨2, ![512, 256]⟩
abbrev S1x1x1x256 : Shape := ⟨4, ![1, 1, 1, 256]⟩
abbrev S256 : Shape := ⟨1, ![256]⟩
abbrev S16x256 : Shape := ⟨2, ![16, 256]⟩
abbrev S1x1x16x256 : Shape := ⟨4, ![1, 1, 16, 256]⟩
abbrev S3x32x512x16 : Shape := ⟨4, ![3, 32, 512, 16]⟩
abbrev S_ : Shape := ⟨0, ![]⟩
abbrev S32x16 : Shape := ⟨2, ![32, 16]⟩

abbrev nBuf : Space → Nat
  | .hbm => 20
  | .vmem => 16
  | .smem => 1
  | _ => 0

abbrev bufTy : (tb : Table) → Fin (tcTables nBuf tb) → BufTy
  | .hbm, ⟨0, _⟩ => ⟨S3x512x32x64, .fp8e4m3⟩
  | .hbm, ⟨1, _⟩ => ⟨S3x512x32, .f32⟩
  | .hbm, ⟨2, _⟩ => ⟨S3x512x32x64, .fp8e4m3⟩
  | .hbm, ⟨3, _⟩ => ⟨S3x512x32, .f32⟩
  | .hbm, ⟨4, _⟩ => ⟨S3x512x32x64, .bf16⟩
  | .hbm, ⟨5, _⟩ => ⟨S3x512x32x64, .bf16⟩
  | .hbm, ⟨6, _⟩ => ⟨S3x32x64x512, .fp8e4m3⟩
  | .hbm, ⟨7, _⟩ => ⟨S3x32x512x64, .fp8e4m3⟩
  | .hbm, ⟨8, _⟩ => ⟨S3x32x64x512, .bf16⟩
  | .hbm, ⟨9, _⟩ => ⟨S3x32x64x512, .bf16⟩
  | .hbm, ⟨10, _⟩ => ⟨S3x32x512, .f32⟩
  | .hbm, ⟨11, _⟩ => ⟨S3x32x1x512, .f32⟩
  | .hbm, ⟨12, _⟩ => ⟨S3x32x512, .f32⟩
  | .hbm, ⟨13, _⟩ => ⟨S3x32x1x512, .f32⟩
  | .hbm, ⟨14, _⟩ => ⟨S3x32x16x512, .f32⟩
  | .hbm, ⟨15, _⟩ => ⟨S3x32x1x512, .f32⟩
  | .hbm, ⟨16, _⟩ => ⟨S3x32x512x16, .f32⟩
  | .hbm, ⟨17, _⟩ => ⟨S_, .f32⟩
  | .hbm, ⟨18, _⟩ => ⟨S32x16, .f32⟩
  | .hbm, ⟨19, _⟩ => ⟨S3x32x512, .f32⟩
  | .local _ .vmem, ⟨0, _⟩ => ⟨S1x1x64x512, .fp8e4m3⟩
  | .local _ .vmem, ⟨1, _⟩ => ⟨S1x1x64x512, .fp8e4m3⟩
  | .local _ .vmem, ⟨2, _⟩ => ⟨S1x1x512x64, .fp8e4m3⟩
  | .local _ .vmem, ⟨3, _⟩ => ⟨S1x1x512x64, .fp8e4m3⟩
  | .local _ .vmem, ⟨4, _⟩ => ⟨S1x1x1x512, .f32⟩
  | .local _ .vmem, ⟨5, _⟩ => ⟨S1x1x1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x64x512, .bf16⟩
  | .local _ .vmem, ⟨9, _⟩ => ⟨S1x1x64x512, .bf16⟩
  | .local _ .vmem, ⟨10, _⟩ => ⟨S1x1x64x512, .bf16⟩
  | .local _ .vmem, ⟨11, _⟩ => ⟨S1x1x64x512, .bf16⟩
  | .local _ .vmem, ⟨12, _⟩ => ⟨S1x1x16x512, .f32⟩
  | .local _ .vmem, ⟨13, _⟩ => ⟨S1x1x16x512, .f32⟩
  | .local _ .vmem, ⟨14, _⟩ => ⟨S1x1x1x512, .f32⟩
  | .local _ .vmem, ⟨15, _⟩ => ⟨S1x1x1x512, .f32⟩
  | .local _ .smem, ⟨0, _⟩ => ⟨S3, .i32⟩
  | _, _ => ⟨S3x512x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 32], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v18 : BitVec 1 := Scalar.cmpi .sgt v1 c0_i32
  let v19 : BitVec 32 := Scalar.extui v18
  let c0_i32_7 : BitVec 32 := 0#32
  let v20 : BitVec 1 := Scalar.cmpi .ne v19 c0_i32_7
  v20

def k0_cond2 (v1 : BitVec 32) : BitVec 1 :=
  let c0_i32_8 : BitVec 32 := 0#32
  let v21 : BitVec 1 := Scalar.cmpi .sle v1 c0_i32_8
  let v22 : BitVec 32 := Scalar.extui v21
  let c0_i32_9 : BitVec 32 := 0#32
  let v23 : BitVec 1 := Scalar.cmpi .ne v22 c0_i32_9
  v23

def k0_cond3 (v1 : BitVec 32) : BitVec 1 :=
  let c256_i32 : BitVec 32 := 256#32
  let v24 : BitVec 1 := Scalar.cmpi .sgt v1 c256_i32
  let v25 : BitVec 32 := Scalar.extui v24
  let c0_i32_10 : BitVec 32 := 0#32
  let v26 : BitVec 1 := Scalar.cmpi .ne v25 c0_i32_10
  v26

def k0_cond4 (v1 : BitVec 32) : BitVec 1 :=
  let c256_i32_11 : BitVec 32 := 256#32
  let v27 : BitVec 1 := Scalar.cmpi .sle v1 c256_i32_11
  let v28 : BitVec 32 := Scalar.extui v27
  let c0_i32_12 : BitVec 32 := 0#32
  let v29 : BitVec 1 := Scalar.cmpi .ne v28 c0_i32_12
  v29

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x64 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "scale_log2e" => some (((1 / 8) * (Real.log 2)⁻¹ : ℝ) : EReal)
  | _ => none
-- ==== ReferenceIdeal.lean ====
abbrev S3x512x32x64 : Shape := ⟨4, ![3, 512, 32, 64]⟩
abbrev S3x512x32 : Shape := ⟨3, ![3, 512, 32]⟩
abbrev S3 : Shape := ⟨1, ![3]⟩
abbrev S512 : Shape := ⟨1, ![512]⟩
abbrev S1x512 : Shape := ⟨2, ![1, 512]⟩
abbrev S3x1 : Shape := ⟨2, ![3, 1]⟩
abbrev S3x512 : Shape := ⟨2, ![3, 512]⟩
abbrev S3x32x512x512 : Shape := ⟨4, ![3, 32, 512, 512]⟩
abbrev S3x32x512 : Shape := ⟨3, ![3, 32, 512]⟩
abbrev S3x32x512x1 : Shape := ⟨4, ![3, 32, 512, 1]⟩
abbrev S3x32x1x512 : Shape := ⟨4, ![3, 32, 1, 512]⟩
abbrev S_ : Shape := ⟨0, ![]⟩
abbrev S3x1x1x512 : Shape := ⟨4, ![3, 1, 1, 512]⟩
abbrev S3x32x512x64 : Shape := ⟨4, ![3, 32, 512, 64]⟩
abbrev S16 : Shape := ⟨1, ![16]⟩
abbrev S16x1x1x1x1 : Shape := ⟨5, ![16, 1, 1, 1, 1]⟩
abbrev S1x3x32x512x512 : Shape := ⟨5, ![1, 3, 32, 512, 512]⟩
abbrev S16x3x32x512x512 : Shape := ⟨5, ![16, 3, 32, 512, 512]⟩
abbrev S3x32x64x16x512 : Shape := ⟨5, ![3, 32, 64, 16, 512]⟩
abbrev S16x3x32x512x64 : Shape := ⟨5, ![16, 3, 32, 512, 64]⟩
abbrev S1x3x32x512x64 : Shape := ⟨5, ![1, 3, 32, 512, 64]⟩
abbrev S16x3x32x512 : Shape := ⟨4, ![16, 3, 32, 512]⟩
abbrev S1x3x1x512 : Shape := ⟨4, ![1, 3, 1, 512]⟩
abbrev S3x32x512x16 : Shape := ⟨4, ![3, 32, 512, 16]⟩
abbrev S32x16 : Shape := ⟨2, ![32, 16]⟩
abbrev S3x1x512 : Shape := ⟨3, ![3, 1, 512]⟩
abbrev S3x1x1 : Shape := ⟨3, ![3, 1, 1]⟩

abbrev nBuf : Space → Nat
  | .hbm => 159
  | .vmem => 4
  | .smem => 0
  | _ => 0

abbrev hbmTy0_0 (i : Nat) : BufTy := match i % 128 with
  | 0 => ⟨S3x512x32x64, .fp8e4m3⟩
  | 1 => ⟨S3x512x32, .f32⟩
  | 2 => ⟨S3x512x32x64, .fp8e4m3⟩
  | 3 => ⟨S3x512x32, .f32⟩
  | 4 => ⟨S3x512x32x64, .bf16⟩
  | 5 => ⟨S3x512x32x64, .bf16⟩
  | 6 => ⟨S3, .i32⟩
  | 7 => ⟨S3x512x32x64, .f32⟩
  | 8 => ⟨S3x512x32x64, .f32⟩
  | 9 => ⟨S512, .i32⟩
  | 10 => ⟨S1x512, .i32⟩
  | 11 => ⟨S3x1, .i32⟩
  | 12 => ⟨S3x512, .i32⟩
  | 13 => ⟨S3x512, .i32⟩
  | 14 => ⟨S3x512, .i1⟩
  | 15 => ⟨S3x32x512x512, .f32⟩
  | 16 => ⟨S3x32x512, .f32⟩
  | 17 => ⟨S3x32x512x1, .f32⟩
  | 18 => ⟨S3x32x512x512, .f32⟩
  | 19 => ⟨S3x32x512x512, .f32⟩
  | 20 => ⟨S3x32x512, .f32⟩
  | 21 => ⟨S3x32x1x512, .f32⟩
  | 22 => ⟨S3x32x512x512, .f32⟩
  | 23 => ⟨S3x32x512x512, .f32⟩
  | 24 => ⟨S_, .f32⟩
  | 25 => ⟨S3x32x512x512, .f32⟩
  | 26 => ⟨S3x32x512x512, .f32⟩
  | 27 => ⟨S3x1x1x512, .i1⟩
  | 28 => ⟨S_, .f32⟩
  | 29 => ⟨S_, .f32⟩
  | 30 => ⟨S3x32x512x512, .i1⟩
  | 31 => ⟨S3x32x512x512, .f32⟩
  | 32 => ⟨S3x32x512x512, .f32⟩
  | 33 => ⟨S_, .f32⟩
  | 34 => ⟨S3x32x512, .f32⟩
  | 35 => ⟨S3x32x512x1, .f32⟩
  | 36 => ⟨S3x32x512x512, .f32⟩
  | 37 => ⟨S3x32x512x512, .f32⟩
  | 38 => ⟨S3x32x512x512, .f32⟩
  | 39 => ⟨S_, .f32⟩
  | 40 => ⟨S3x32x512, .f32⟩
  | 41 => ⟨S3x32x512x1, .f32⟩
  | 42 => ⟨S3x32x512x1, .f32⟩
  | 43 => ⟨S3x32x512x1, .f32⟩
  | 44 => ⟨S3x32x512, .f32⟩
  | 45 => ⟨S3x32x512x512, .f32⟩
  | 46 => ⟨S3x32x512x512, .f32⟩
  | 47 => ⟨S3x32x512x512, .f32⟩
  | 48 => ⟨S3x32x512x512, .f32⟩
  | 49 => ⟨S3x32x512x512, .f32⟩
  | 50 => ⟨S3x32x512x512, .bf16⟩
  | 51 => ⟨S3x32x512x64, .f32⟩
  | 52 => ⟨S16, .i32⟩
  | 53 => ⟨S_, .i32⟩
  | 54 => ⟨S16, .i32⟩
  | 55 => ⟨S16, .i32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S16, .f32⟩
  | 63 => ⟨S_, .f32⟩
  | 64 => ⟨S16, .f32⟩
  | 65 => ⟨S16, .f32⟩
  | 66 => ⟨S16x1x1x1x1, .f32⟩
  | 67 => ⟨S_, .i32⟩
  | 68 => ⟨S16, .i32⟩
  | 69 => ⟨S16, .i32⟩
  | 70 => ⟨S16, .f32⟩
  | 71 => ⟨S_, .f32⟩
  | 72 => ⟨S16, .f32⟩
  | 73 => ⟨S16, .f32⟩
  | 74 => ⟨S16x1x1x1x1, .f32⟩
  | 75 => ⟨S_, .f32⟩
  | 76 => ⟨S3x32x512x512, .f32⟩
  | 77 => ⟨S3x32x512x512, .f32⟩
  | 78 => ⟨S3x32x512x512, .f32⟩
  | 79 => ⟨S_, .i32⟩
  | 80 => ⟨S_, .i32⟩
  | 81 => ⟨S_, .f32⟩
  | 82 => ⟨S3x32x512x512, .f32⟩
  | 83 => ⟨S3x32x512x512, .f32⟩
  | 84 => ⟨S_, .f32⟩
  | 85 => ⟨S3x32x512x512, .f32⟩
  | 86 => ⟨S3x32x512x512, .f32⟩
  | 87 => ⟨S_, .f32⟩
  | 88 => ⟨S3x32x512x512, .f32⟩
  | 89 => ⟨S3x32x512x512, .f32⟩
  | 90 => ⟨S1x3x32x512x512, .f32⟩
  | 91 => ⟨S16x3x32x512x512, .f32⟩
  | 92 => ⟨S16x3x32x512x512, .f32⟩
  | 93 => ⟨S16x3x32x512x512, .f32⟩
  | 94 => ⟨S16x3x32x512x512, .f32⟩
  | 95 => ⟨S_, .i32⟩
  | 96 => ⟨S_, .i32⟩
  | 97 => ⟨S_, .f32⟩
  | 98 => ⟨S16x3x32x512x512, .f32⟩
  | 99 => ⟨S16x3x32x512x512, .f32⟩
  | 100 => ⟨S_, .f32⟩
  | 101 => ⟨S16x3x32x512x512, .f32⟩
  | 102 => ⟨S16x3x32x512x512, .f32⟩
  | 103 => ⟨S1x3x32x512x512, .f32⟩
  | 104 => ⟨S16x3x32x512x512, .f32⟩
  | 105 => ⟨S16x3x32x512x512, .f32⟩
  | 106 => ⟨S16x3x32x512x512, .i1⟩
  | 107 => ⟨S1x3x32x512x512, .f32⟩
  | 108 => ⟨S16x3x32x512x512, .f32⟩
  | 109 => ⟨S16x3x32x512x512, .f32⟩
  | 110 => ⟨S16x3x32x512x512, .i32⟩
  | 111 => ⟨S_, .i32⟩
  | 112 => ⟨S16x3x32x512x512, .i32⟩
  | 113 => ⟨S16x3x32x512x512, .i32⟩
  | 114 => ⟨S16x3x32x512x512, .bf16⟩
  | 115 => ⟨S_, .i32⟩
  | 116 => ⟨S16x3x32x512x512, .i32⟩
  | 117 => ⟨S16x3x32x512x512, .i1⟩
  | 118 => ⟨S16, .bf16⟩
  | 119 => ⟨S16x1x1x1x1, .bf16⟩
  | 120 => ⟨S_, .bf16⟩
  | 121 => ⟨S16x3x32x512x512, .bf16⟩
  | 122 => ⟨S16x3x32x512x512, .bf16⟩
  | 123 => ⟨S16x3x32x512x512, .bf16⟩
  | 124 => ⟨S16x3x32x512x512, .bf16⟩
  | 125 => ⟨S3x32x64x16x512, .f32⟩
  | 126 => ⟨S16x3x32x512x64, .f32⟩
  | 127 => ⟨S3x32x512x64, .bf16⟩
  | _ => ⟨S3x512x32x64, .fp8e4m3⟩

abbrev hbmTy0_1 (i : Nat) : BufTy := match i % 128 with
  | 0 => ⟨S3x32x512x64, .f32⟩
  | 1 => ⟨S1x3x32x512x64, .f32⟩
  | 2 => ⟨S16x3x32x512x64, .f32⟩
  | 3 => ⟨S16x3x32x512x64, .f32⟩
  | 4 => ⟨S3x32x512x64, .f32⟩
  | 5 => ⟨S1x3x32x512x64, .f32⟩
  | 6 => ⟨S16x3x32x512x64, .f32⟩
  | 7 => ⟨S16x3x32x512x64, .f32⟩
  | 8 => ⟨S16x3x32x512x64, .f32⟩
  | 9 => ⟨S_, .f32⟩
  | 10 => ⟨S16x3x32x512, .f32⟩
  | 11 => ⟨S1x3x1x512, .i1⟩
  | 12 => ⟨S_, .f32⟩
  | 13 => ⟨S_, .f32⟩
  | 14 => ⟨S16x3x32x512, .i1⟩
  | 15 => ⟨S16x3x32x512, .f32⟩
  | 16 => ⟨S16x3x32x512, .f32⟩
  | 17 => ⟨S3x32x512x16, .f32⟩
  | 18 => ⟨S_, .f32⟩
  | 19 => ⟨S32x16, .f32⟩
  | 20 => ⟨S3, .f32⟩
  | 21 => ⟨S3, .f32⟩
  | 22 => ⟨S3x1x512, .i1⟩
  | 23 => ⟨S3x1x1, .f32⟩
  | 24 => ⟨S3x32x512, .f32⟩
  | 25 => ⟨S3x32x512, .f32⟩
  | 26 => ⟨S_, .f32⟩
  | 27 => ⟨S_, .f32⟩
  | 28 => ⟨S3x32x512, .i1⟩
  | 29 => ⟨S3x32x512, .f32⟩
  | 30 => ⟨S3x32x512, .f32⟩
  | _ => ⟨S3x512x32x64, .fp8e4m3⟩

abbrev hbmTy (i : Nat) : BufTy := match i / 128 with
  | 0 => hbmTy0_0 i
  | 1 => hbmTy0_1 i
  | _ => ⟨S3x512x32x64, .fp8e4m3⟩

abbrev bufTy : (tb : Table) → Fin (tcTables nBuf tb) → BufTy
  | .hbm, ⟨i, _⟩ => hbmTy i
  | .local _ .vmem, ⟨0, _⟩ => ⟨S3x512x32x64, .fp8e4m3⟩
  | .local _ .vmem, ⟨1, _⟩ => ⟨S3x512x32x64, .fp8e4m3⟩
  | .local _ .vmem, ⟨2, _⟩ => ⟨S3x512x32x64, .f32⟩
  | .local _ .vmem, ⟨3, _⟩ => ⟨S3x512x32x64, .f32⟩
  | _, _ => ⟨S3x512x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_v38 : Ref sig .tc := ⟨.hbm, 54, rfl⟩
abbrev main_v39 : Ref sig .tc := ⟨.hbm, 55, rfl⟩
abbrev main_c_3 : Ref sig .tc := ⟨.hbm, 56, rfl⟩
abbrev main_v40 : Ref sig .tc := ⟨.hbm, 57, rfl⟩
abbrev main_v41 : Ref sig .tc := ⟨.hbm, 58, rfl⟩
abbrev main_c_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_c_10 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_12 : Ref sig .tc := ⟨.hbm, 95, rfl⟩
abbrev main_c_13 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call5_v0 : Ref sig .tc := ⟨.hbm, 108, rfl⟩
abbrev main_v71 : Ref sig .tc := ⟨.hbm, 109, rfl⟩
abbrev main_v72 : Ref sig .tc := ⟨.hbm, 110, rfl⟩
abbrev main_c_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_15 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_16 : Ref sig .tc := ⟨.hbm, 120, rfl⟩
abbrev main_call6_v0 : Ref sig .tc := ⟨.hbm, 121, rfl⟩
abbrev main_call6_v1 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_17 : Ref sig .tc := ⟨.hbm, 137, rfl⟩
abbrev main_v94 : Ref sig .tc := ⟨.hbm, 138, rfl⟩
abbrev main_v95 : Ref sig .tc := ⟨.hbm, 139, rfl⟩
abbrev main_cst_18 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v96 : Ref sig .tc := ⟨.hbm, 144, rfl⟩
abbrev main_v97 : Ref sig .tc := ⟨.hbm, 145, rfl⟩
abbrev main_cst_19 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_20 : Ref sig .tc := ⟨.hbm, 154, rfl⟩
abbrev main_call8_v0 : Ref sig .tc := ⟨.hbm, 155, rfl⟩
abbrev main_call8_v1 : Ref sig .tc := ⟨.hbm, 156, rfl⟩
abbrev main_call8_v2 : Ref sig .tc := ⟨.hbm, 157, rfl⟩
abbrev main_v105 : Ref sig .tc := ⟨.hbm, 158, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x512x32x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x32x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Live.lean ====
/- The body obligation of a pipeline in which no window is idle at any point. -/
module

public import Idealize.ShloMosaic.Lib.Pipeline.FrameBody

@[expose] public section

noncomputable section

namespace Cert.Live

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {nD : Nat} {τ : Topo} {sig : RefSig} {Val : EltTy → Type} {Λ₀ : Idealize.SL.Sem.Labels}

local notation "𝕄" => MT nD τ sig Unit Val ℕ (UR sig nD τ) ℕ

/-- Where no window is idle, the obligation is that the body leaves each current buffer at what the proof data says. -/
theorem obligation {cfg : Cfg sig Λ₀} {c : Dev nD} (dat : Dat τ Val Unit ℕ (UR sig nD τ) ℕ cfg c)
    (defs₀ : Defs nD τ sig Val Λ₀) (𝒱₀ : Variants) (E : Set ℕ)
    (hidle : ∀ w t, cfg.idle w (cfg.grid.coords t) = false)
    (h : ∀ t : Fin cfg.N, (iprop(dat.Φ t.castSucc ∗ dat.owesAt () t.castSucc
        ∗ bigSep Finset.univ fun w : Fin cfg.W => iprop(∃ d, owns (c : Thread nD τ) ((cfg.win w).stage (cfg.slots t w)) fullShare (dat.before w t d))) : sProp 𝕄)
      ⊢ wp frame (wpE defs₀ 𝒱₀ c none) E (defs₀ .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat defs₀ 𝒱₀ () E := fun t =>
  (h t).trans (wp_mono _ _ _ fun _ => sep_mono (fun _ h => h) (sep_mono (fun _ h => h) (Idealize.SL.BI.bigSep_mono fun w _ =>
    show (owns (c : Thread nD τ) ((cfg.win w).stage (cfg.slots t w)) fullShare (dat.after w t) : sProp 𝕄) ⊢ dat.leavesExact w t from by
    unfold Dat.leavesExact; rw [hidle w t])))

end Cert.Live

end
-- ==== Proof.Kernel.Shared.lean ====
/- What the frame certificate of `Cert.Kernel` shares between its cases: @main around the pallas_call, the
   lengths table, the blocks of the windows, the branch conditions of the body, and the body as the pipeline calls it. -/
module

public import proofs.«01_k».proof.Proof.Gen.Kernel.Launch
public import proofs.«01_k».proof.Proof.Gen.Kernel.Skeleton
public import proofs.«01_k».proof.Proof.Live
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c)),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c))⟩) h

/-! ## The length word and the branch conditions -/

/-- The word of the lengths table that the body reads at a point: the length of the point's batch row. -/
abbrev word (c : Dev nD) (i : grid0.Coords) (xt0 : TbBuf0 (F := F) c tbM0_0) : BitVec 32 :=
  tbM0_0.view.readAt (Elt F) (Rect.unit (s := S3) (k0_off1 i) S1.size (k0_off1_inb i)).toLoadRect xt0 (Shape.Idx.first (numel1_S1.symm ▸ Nat.one_pos))

theorem flag_iff (b : Bool) : IntOp.cmpi .ne (BitVec.setWidth 32 (BitVec.ofBool b)) 0#32 = 1#1 ↔ b = true := by
  cases b <;> decide

theorem cond1_iff (v : BitVec 32) : k0_cond1 v = 1#1 ↔ 0 < v.toInt := by
  refine (flag_iff (decide ((0#32).toInt < v.toInt))).trans ?_
  rw [decide_eq_true_iff, show (0#32).toInt = 0 from by decide]

theorem cond2_iff (v : BitVec 32) : k0_cond2 v = 1#1 ↔ ¬ k0_cond1 v = 1#1 := by
  rw [cond1_iff, not_lt]
  refine (flag_iff (decide (v.toInt ≤ (0#32).toInt))).trans ?_
  rw [decide_eq_true_iff, show (0#32).toInt = 0 from by decide]

theorem cond3_iff (v : BitVec 32) : k0_cond3 v = 1#1 ↔ 256 < v.toInt := by
  refine (flag_iff (decide ((256#32).toInt < v.toInt))).trans ?_
  rw [decide_eq_true_iff, show (256#32).toInt = 256 from by decide]

theorem cond4_iff (v : BitVec 32) : k0_cond4 v = 1#1 ↔ ¬ k0_cond3 v = 1#1 := by
  rw [cond3_iff, not_lt]
  refine (flag_iff (decide (v.toInt ≤ (256#32).toInt))).trans ?_
  rw [decide_eq_true_iff, show (256#32).toInt = 256 from by decide]

/-- The second tile has valid queries only if the first has. -/
theorem cond1_of_cond3 (v : BitVec 32) (h : k0_cond3 v = 1#1) : k0_cond1 v = 1#1 := by
  rw [cond3_iff] at h; rw [cond1_iff]; omega

/-- Each point stores both outputs: no window is idle anywhere. -/
theorem idle_6 (pf : pre0.Contents (Elt F)) (i : grid0.Coords) : idle0 pf 6 i = false := by
  by_cases h : k0_cond1 (pf.atD 0 (k0_off1 i)) = 1#1
  · simp [idle0, h]
  · simp [idle0, (cond2_iff _).2 h]
theorem idle_7 (pf : pre0.Contents (Elt F)) (i : grid0.Coords) : idle0 pf 7 i = false := by
  by_cases h : k0_cond1 (pf.atD 0 (k0_off1 i)) = 1#1
  · simp [idle0, h]
  · simp [idle0, (cond2_iff _).2 h]

/-! ## The kernel body on any staging memrefs: a subtype the run finds -/

/-- One staging buffer of output window 6, through which its contents are stated (`View.read_writes_of_cover`: the
    choice does not matter). -/
abbrev VO0_6 : View sig .tc .vmem S1x1x16x512 .f32 := (Memref.whole cc0_stg6_0 : Memref sig .tc .vmem S1x1x16x512 .f32).view
/-- One staging buffer of output window 7, through which its contents are stated (`View.read_writes_of_cover`: the
    choice does not matter). -/
abbrev VO0_7 : View sig .tc .vmem S1x1x1x512 .f32 := (Memref.whole cc0_stg7_0 : Memref sig .tc .vmem S1x1x1x512 .f32).view
/-- Each window's current staging memref at point `t`, spelled as the pipeline passes it (`bodyAt0`), and its wholeness. -/
abbrev ms0_0 (hO : Ok m) (t : Fin (cfgM m hO).N) : Memref sig .tc .vmem S1x1x64x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x512x64 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x64x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x64x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x16x512 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1x512 .f32 := spec0_7.stage ((cfgM m hO).slots t 7)
abbrev hs0_7 (hO : Ok m) (t : Fin (cfgM m hO).N) : (ms0_7 m hO t).IsWhole := hstage0_7 (((cfgM m hO).slots t 7).cast nbuf0_7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_twin_uniform_search (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

end Cert.Kernel.Body

end
-- ==== Proof.Kernel.RunA.lean ====
/- The run of the body of `Cert.Kernel` when both query tiles hold valid queries (the length is above 256). -/
module

public import proofs.«01_k».proof.Proof.Kernel.Shared

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when both query tiles hold valid queries (the length is above 256): what its stores leave in the two output blocks, as
    the list of stored pieces (last first), with the proof that the body runs to the continuation holding the inputs as
    they were and the outputs with these pieces written. -/
def runA (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) :
    Σ' (L6 : List (View.Piece (Elt F) S1x1x16x512 .f32)), { L7 : List (View.Piece (Elt F) S1x1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ tbPt0 c tbM0_0 xt0) -∗ K ⟨⟩))
          ⊢ wp frame (wpE (defs₀ (F := F)) Variants.none c none) E (cc0_twin_uniform_search i tbM0_0 htbM0_0 arg3 harg3 arg4 harg4 arg5 harg5 arg6 harg6 arg7 harg7 arg8 harg8 arg9 harg9 arg10 harg10) K } := by
  refine ⟨?_, ?_, fun E K => ?run⟩
  case run =>
    simp only [cc0_twin_uniform_search_eq_skeleton]; unfold cc0_twin_uniform_search_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexact HT0

/-- The pieces stored to output window 6 tile its block, so they cover it. -/
theorem coverA_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) (y : S1x1x16x512.Idx) :
    ∃ pc ∈ (runA c i arg3 harg3 arg4 harg4 arg5 harg5 arg6 harg6 arg7 harg7 arg8 harg8 arg9 harg9 arg10 harg10 x0 x1 x2 x3 x4 x5 xt0 hc1 hc2 hc3 hc4).1, y ∈ pc.1.set :=
  View.cover_of_tiledL (runA c i arg3 harg3 arg4 harg4 arg5 harg5 arg6 harg6 arg7 harg7 arg8 harg8 arg9 harg9 arg10 harg10 x0 x1 x2 x3 x4 x5 xt0 hc1 hc2 hc3 hc4).1 S1x1x16x256.size (by sl_kernel_rfl) y

/-- What the run leaves in output window 6's block: its pieces read back. -/
def outA_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) : Vec F S1x1x16x512 .f32 :=
  VO0_6.read (Elt F) (VO0_6.writes (Elt F) VO0_6.junk (runA c i arg3 harg3 arg4 harg4 arg5 harg5 arg6 harg6 arg7 harg7 arg8 harg8 arg9 harg9 arg10 harg10 x0 x1 x2 x3 x4 x5 xt0 hc1 hc2 hc3 hc4).1)

/-- The pieces stored to output window 7 tile its block, so they cover it. -/
theorem coverA_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) (y : S1x1x1x512.Idx) :
    ∃ pc ∈ (runA c i arg3 harg3 arg4 harg4 arg5 harg5 arg6 harg6 arg7 harg7 arg8 harg8 arg9 harg9 arg10 harg10 x0 x1 x2 x3 x4 x5 xt0 hc1 hc2 hc3 hc4).2.1, y ∈ pc.1.set :=
  View.cover_of_tiledL (runA c i arg3 harg3 arg4 harg4 arg5 harg5 arg6 harg6 arg7 harg7 arg8 harg8 arg9 harg9 arg10 harg10 x0 x1 x2 x3 x4 x5 xt0 hc1 hc2 hc3 hc4).2.1 S1x1x1x256.size (by sl_kernel_rfl) y

/-- What the run leaves in output window 7's block: its pieces read back. -/
def outA_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) : Vec F S1x1x1x512 .f32 :=
  VO0_7.read (Elt F) (VO0_7.writes (Elt F) VO0_7.junk (runA c i arg3 harg3 arg4 harg4 arg5 harg5 arg6 harg6 arg7 harg7 arg8 harg8 arg9 harg9 arg10 harg10 x0 x1 x2 x3 x4 x5 xt0 hc1 hc2 hc3 hc4).2.1)

end Cert.Kernel.Body

end
-- ==== Proof.Kernel.RunB.lean ====
/- The run of the body of `Cert.Kernel` when only the first query tile holds valid queries (the length is in 1..256). -/
module

public import proofs.«01_k».proof.Proof.Kernel.RunA

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when only the first query tile holds valid queries (the length is in 1..256): what its stores leave in the two output blocks, as
    the list of stored pieces (last first), with the proof that the body runs to the continuation holding the inputs as
    they were and the outputs with these pieces written. -/
def runB (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) :
    Σ' (L6 : List (View.Piece (Elt F) S1x1x16x512 .f32)), { L7 : List (View.Piece (Elt F) S1x1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ tbPt0 c tbM0_0 xt0) -∗ K ⟨⟩))
          ⊢ wp frame (wpE (defs₀ (F := F)) Variants.none c none) E (cc0_twin_uniform_search i tbM0_0 htbM0_0 arg3 harg3 arg4 harg4 arg5 harg5 arg6 harg6 arg7 harg7 arg8 harg8 arg9 harg9 arg10 harg10) K } := by
  refine ⟨?_, ?_, fun E K => ?run⟩
  case run =>
    simp only [cc0_twin_uniform_search_eq_skeleton]; unfold cc0_twin_uniform_search_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexact HT0

/-- The pieces stored to output window 6 tile its block, so they cover it. -/
theorem coverB_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) (y : S1x1x16x512.Idx) :
    ∃ pc ∈ (runB c i arg3 harg3 arg4 harg4 arg5 harg5 arg6 harg6 arg7 harg7 arg8 harg8 arg9 harg9 arg10 harg10 x0 x1 x2 x3 x4 x5 xt0 hc1 hc2 hc3 hc4).1, y ∈ pc.1.set :=
  View.cover_of_tiledL (runB c i arg3 harg3 arg4 harg4 arg5 harg5 arg6 harg6 arg7 harg7 arg8 harg8 arg9 harg9 arg10 harg10 x0 x1 x2 x3 x4 x5 xt0 hc1 hc2 hc3 hc4).1 S1x1x16x256.size (by sl_kernel_rfl) y

/-- What the run leaves in output window 6's block: its pieces read back. -/
def outB_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) : Vec F S1x1x16x512 .f32 :=
  VO0_6.read (Elt F) (VO0_6.writes (Elt F) VO0_6.junk (runB c i arg3 harg3 arg4 harg4 arg5 harg5 arg6 harg6 arg7 harg7 arg8 harg8 arg9 harg9 arg10 harg10 x0 x1 x2 x3 x4 x5 xt0 hc1 hc2 hc3 hc4).1)

/-- The pieces stored to output window 7 tile its block, so they cover it. -/
theorem coverB_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) (y : S1x1x1x512.Idx) :
    ∃ pc ∈ (runB c i arg3 harg3 arg4 harg4 arg5 harg5 arg6 harg6 arg7 harg7 arg8 harg8 arg9 harg9 arg10 harg10 x0 x1 x2 x3 x4 x5 xt0 hc1 hc2 hc3 hc4).2.1, y ∈ pc.1.set :=
  View.cover_of_tiledL (runB c i arg3 harg3 arg4 harg4 arg5 harg5 arg6 harg6 arg7 harg7 arg8 harg8 arg9 harg9 arg10 harg10 x0 x1 x2 x3 x4 x5 xt0 hc1 hc2 hc3 hc4).2.1 S1x1x1x256.size (by sl_kernel_rfl) y

/-- What the run leaves in output window 7's block: its pieces read back. -/
def outB_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) : Vec F S1x1x1x512 .f32 :=
  VO0_7.read (Elt F) (VO0_7.writes (Elt F) VO0_7.junk (runB c i arg3 harg3 arg4 harg4 arg5 harg5 arg6 harg6 arg7 harg7 arg8 harg8 arg9 harg9 arg10 harg10 x0 x1 x2 x3 x4 x5 xt0 hc1 hc2 hc3 hc4).2.1)

end Cert.Kernel.Body

end
-- ==== Proof.Kernel.RunC.lean ====
/- The run of the body of `Cert.Kernel` when no query is valid (the length is not positive). -/
module

public import proofs.«01_k».proof.Proof.Kernel.RunB

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when no query is valid (the length is not positive): what its stores leave in the two output blocks, as
    the list of stored pieces (last first), with the proof that the body runs to the continuation holding the inputs as
    they were and the outputs with these pieces written. -/
def runC (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) :
    Σ' (L6 : List (View.Piece (Elt F) S1x1x16x512 .f32)), { L7 : List (View.Piece (Elt F) S1x1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ tbPt0 c tbM0_0 xt0) -∗ K ⟨⟩))
          ⊢ wp frame (wpE (defs₀ (F := F)) Variants.none c none) E (cc0_twin_uniform_search i tbM0_0 htbM0_0 arg3 harg3 arg4 harg4 arg5 harg5 arg6 harg6 arg7 harg7 arg8 harg8 arg9 harg9 arg10 harg10) K } := by
  refine ⟨?_, ?_, fun E K => ?run⟩
  case run =>
    simp only [cc0_twin_uniform_search_eq_skeleton]; unfold cc0_twin_uniform_search_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexact HT0

/-- The pieces stored to output window 6 tile its block, so they cover it. -/
theorem coverC_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) (y : S1x1x16x512.Idx) :
    ∃ pc ∈ (runC c i arg3 harg3 arg4 harg4 arg5 harg5 arg6 harg6 arg7 harg7 arg8 harg8 arg9 harg9 arg10 harg10 x0 x1 x2 x3 x4 x5 xt0 hc1 hc2 hc3 hc4).1, y ∈ pc.1.set :=
  View.cover_of_tiledL (runC c i arg3 harg3 arg4 harg4 arg5 harg5 arg6 harg6 arg7 harg7 arg8 harg8 arg9 harg9 arg10 harg10 x0 x1 x2 x3 x4 x5 xt0 hc1 hc2 hc3 hc4).1 S1x1x16x256.size (by sl_kernel_rfl) y

/-- What the run leaves in output window 6's block: its pieces read back. -/
def outC_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) : Vec F S1x1x16x512 .f32 :=
  VO0_6.read (Elt F) (VO0_6.writes (Elt F) VO0_6.junk (runC c i arg3 harg3 arg4 harg4 arg5 harg5 arg6 harg6 arg7 harg7 arg8 harg8 arg9 harg9 arg10 harg10 x0 x1 x2 x3 x4 x5 xt0 hc1 hc2 hc3 hc4).1)

/-- The pieces stored to output window 7 tile its block, so they cover it. -/
theorem coverC_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) (y : S1x1x1x512.Idx) :
    ∃ pc ∈ (runC c i arg3 harg3 arg4 harg4 arg5 harg5 arg6 harg6 arg7 harg7 arg8 harg8 arg9 harg9 arg10 harg10 x0 x1 x2 x3 x4 x5 xt0 hc1 hc2 hc3 hc4).2.1, y ∈ pc.1.set :=
  View.cover_of_tiledL (runC c i arg3 harg3 arg4 harg4 arg5 harg5 arg6 harg6 arg7 harg7 arg8 harg8 arg9 harg9 arg10 harg10 x0 x1 x2 x3 x4 x5 xt0 hc1 hc2 hc3 hc4).2.1 S1x1x1x256.size (by sl_kernel_rfl) y

/-- What the run leaves in output window 7's block: its pieces read back. -/
def outC_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) : Vec F S1x1x1x512 .f32 :=
  VO0_7.read (Elt F) (VO0_7.writes (Elt F) VO0_7.junk (runC c i arg3 harg3 arg4 harg4 arg5 harg5 arg6 harg6 arg7 harg7 arg8 harg8 arg9 harg9 arg10 harg10 x0 x1 x2 x3 x4 x5 xt0 hc1 hc2 hc3 hc4).2.1)

end Cert.Kernel.Body

end
-- ==== Proof.Kernel.Sound.lean ====
/- The frame certificate of `Cert.Kernel`: what the outputs hold after each point, the pipeline's proof data, the body
   obligation, the run of @main and the frame claim. -/
module

public import proofs.«01_k».proof.Proof.Kernel.RunC

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the two output blocks hold after the body at point `t`. -/
def outsAt0 (hO : Ok m) (c : Dev nD) (t : Fin (cfgM m hO).N) : Vec F S1x1x16x512 .f32 × Vec F S1x1x1x512 .f32 :=
  if h1 : k0_cond1 (word c (grid0.coords t) (tbl m 0)) = 1#1 then
    if h3 : k0_cond3 (word c (grid0.coords t) (tbl m 0)) = 1#1 then
      (outA_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3), outA_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3))
    else
      (outB_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3), outB_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3))
  else
    (outC_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h)), outC_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h)))

theorem outsAt0_A (hO : Ok m) (c : Dev nD) (t : Fin (cfgM m hO).N) (h1 : k0_cond1 (word c (grid0.coords t) (tbl m 0)) = 1#1) (h3 : k0_cond3 (word c (grid0.coords t) (tbl m 0)) = 1#1) :
    outsAt0 m hO c t = (outA_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3), outA_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3)) := by
  unfold outsAt0; exact (dif_pos h1).trans ((dif_pos h3).trans rfl)

theorem outsAt0_B (hO : Ok m) (c : Dev nD) (t : Fin (cfgM m hO).N) (h1 : k0_cond1 (word c (grid0.coords t) (tbl m 0)) = 1#1) (h3 : ¬ k0_cond3 (word c (grid0.coords t) (tbl m 0)) = 1#1) :
    outsAt0 m hO c t = (outB_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3), outB_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3)) := by
  unfold outsAt0; exact (dif_pos h1).trans ((dif_neg h3).trans rfl)

theorem outsAt0_C (hO : Ok m) (c : Dev nD) (t : Fin (cfgM m hO).N) (h1 : ¬ k0_cond1 (word c (grid0.coords t) (tbl m 0)) = 1#1) :
    outsAt0 m hO c t = (outC_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h)), outC_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h))) := by
  unfold outsAt0; exact (dif_neg h1).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t).1
    | ⟨7, _⟩ => (outsAt0 m hO c t).2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t).1 := by dsimp only [dats]; try rfl
theorem after0_7 (hO : Ok m) (c : Dev nD) (t : Fin (cfgM m hO).N) : (dats m hO 0 c).after 7 t = (outsAt0 m hO c t).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 3200000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq]
  by_cases h1 : k0_cond1 (word c (grid0.coords t) (tbl m 0)) = 1#1
  · by_cases h3 : k0_cond3 (word c (grid0.coords t) (tbl m 0)) = 1#1
    · rw [outsAt0_A m hO c t h1 h3]
      unfold outA_6 outA_7; (try dsimp only)
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HT0]; · iexact HT0
      iintro ⟨H0, H1, H2, H3, H4, H5, ⟨%e6, H6⟩, ⟨%e7, H7⟩, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA_6 c _ _ _ _ _ _ _ _ _ _ _ _ _ _ _ _ _ _ _ _ _ _ _ _ _ _ _ _ )
      unfold owns; iexists _; isplitr
      swap; · iexact H7
      ipureintro; exact View.read_writes_of_cover _ _ _ _ _ (coverA_7 c _ _ _ _ _ _ _ _ _ _ _ _ _ _ _ _ _ _ _ _ _ _ _ _ _ _ _ _ )
    · rw [outsAt0_B m hO c t h1 h3]
      unfold outB_6 outB_7; (try dsimp only)
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) _ _ _ _ _ _ _ _ _ _ _ _ _ _ _ _ (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HT0]; · iexact HT0
      iintro ⟨H0, H1, H2, H3, H4, H5, ⟨%e6, H6⟩, ⟨%e7, H7⟩, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverB_6 c _ _ _ _ _ _ _ _ _ _ _ _ _ _ _ _ _ _ _ _ _ _ _ _ _ _ _ _ )
      unfold owns; iexists _; isplitr
      swap; · iexact H7
      ipureintro; exact View.read_writes_of_cover _ _ _ _ _ (coverB_7 c _ _ _ _ _ _ _ _ _ _ _ _ _ _ _ _ _ _ _ _ _ _ _ _ _ _ _ _ )
  · rw [outsAt0_C m hO c t h1]
    unfold outC_6 outC_7; (try dsimp only)
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runC c (grid0.coords t) _ _ _ _ _ _ _ _ _ _ _ _ _ _ _ _ (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h))).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HT0]; · iexact HT0
    iintro ⟨H0, H1, H2, H3, H4, H5, ⟨%e6, H6⟩, ⟨%e7, H7⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverC_6 c _ _ _ _ _ _ _ _ _ _ _ _ _ _ _ _ _ _ _ _ _ _ _ _ _ _ _ _ )
    unfold owns; iexists _; isplitr
    swap; · iexact H7
    ipureintro; exact View.read_writes_of_cover _ _ _ _ _ (coverC_7 c _ _ _ _ _ _ _ _ _ _ _ _ _ _ _ _ _ _ _ _ _ _ _ _ _ _ _ _ )

end Cert.Kernel.Body

end
-- ==== Proof.Kernel.Frame.lean ====
/- The run of @main of `Cert.Kernel` and the frame claim. -/
module

public import proofs.«01_k».proof.Proof.Kernel.Sound

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No window is idle at any point. -/
theorem idle_none (hO : Ok m) (w : Fin (cfgM m hO).W) (t : Fin (cfgM m hO).N) :
    (cfgM m hO).idle w ((cfgM m hO).grid.coords t) = false := by
  show idle0 (tbl m) w (grid0.coords t) = false
  generalize grid0.coords t = i
  generalize tbl m = pf
  revert w
  show ∀ w : Fin 8, idle0 pf w i = false
  intro w
  fin_cases w
  · rfl
  · rfl
  · rfl
  · rfl
  · rfl
  · rfl
  · exact idle_6 pf i
  · exact idle_7 pf i

/-- The library's body obligation, at every point: the body's triple restated. -/
theorem body_obligation (hO : Ok m) (c : Dev nD) : BodyObligation (dats (F := F) m hO 0 c) (defs₀ (F := F)) Variants.none () Set.univ := fun t => by
  refine Live.obligation (dats (F := F) m hO 0 c) (defs₀ (F := F)) Variants.none Set.univ (idle_none m hO) ?_ t
  intro t
  rw [bigSep_W0, bigSep_W0, defs₀_row m hO]
  exact triple_restated (sound_body m hO c t) rfl .rfl fun _ => .rfl

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame claim at any `F`, from any memory whose lengths table is admissible (every table is). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel.Body

end
-- ==== Proof.KernelIdeal.Shared.lean ====
/- What the frame certificate of `Cert.KernelIdeal` shares between its cases: @main around the pallas_call, the
   lengths table, the blocks of the windows, the branch conditions of the body, and the body as the pipeline calls it. -/
module

public import proofs.«01_k».proof.Proof.Gen.KernelIdeal.Launch
public import proofs.«01_k».proof.Proof.Gen.KernelIdeal.Skeleton
public import proofs.«01_k».proof.Proof.Live
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c)),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c))⟩) h

/-! ## The length word and the branch conditions -/

/-- The word of the lengths table that the body reads at a point: the length of the point's batch row. -/
abbrev word (c : Dev nD) (i : grid0.Coords) (xt0 : TbBuf0 (F := F) c tbM0_0) : BitVec 32 :=
  tbM0_0.view.readAt (Elt F) (Rect.unit (s := S3) (k0_off1 i) S1.size (k0_off1_inb i)).toLoadRect xt0 (Shape.Idx.first (numel1_S1.symm ▸ Nat.one_pos))

theorem flag_iff (b : Bool) : IntOp.cmpi .ne (BitVec.setWidth 32 (BitVec.ofBool b)) 0#32 = 1#1 ↔ b = true := by
  cases b <;> decide

theorem cond1_iff (v : BitVec 32) : k0_cond1 v = 1#1 ↔ 0 < v.toInt := by
  refine (flag_iff (decide ((0#32).toInt < v.toInt))).trans ?_
  rw [decide_eq_true_iff, show (0#32).toInt = 0 from by decide]

theorem cond2_iff (v : BitVec 32) : k0_cond2 v = 1#1 ↔ ¬ k0_cond1 v = 1#1 := by
  rw [cond1_iff, not_lt]
  refine (flag_iff (decide (v.toInt ≤ (0#32).toInt))).trans ?_
  rw [decide_eq_true_iff, show (0#32).toInt = 0 from by decide]

theorem cond3_iff (v : BitVec 32) : k0_cond3 v = 1#1 ↔ 256 < v.toInt := by
  refine (flag_iff (decide ((256#32).toInt < v.toInt))).trans ?_
  rw [decide_eq_true_iff, show (256#32).toInt = 256 from by decide]

theorem cond4_iff (v : BitVec 32) : k0_cond4 v = 1#1 ↔ ¬ k0_cond3 v = 1#1 := by
  rw [cond3_iff, not_lt]
  refine (flag_iff (decide (v.toInt ≤ (256#32).toInt))).trans ?_
  rw [decide_eq_true_iff, show (256#32).toInt = 256 from by decide]

/-- The second tile has valid queries only if the first has. -/
theorem cond1_of_cond3 (v : BitVec 32) (h : k0_cond3 v = 1#1) : k0_cond1 v = 1#1 := by
  rw [cond3_iff] at h; rw [cond1_iff]; omega

/-- Each point stores both outputs: no window is idle anywhere. -/
theorem idle_6 (pf : pre0.Contents (Elt F)) (i : grid0.Coords) : idle0 pf 6 i = false := by
  by_cases h : k0_cond1 (pf.atD 0 (k0_off1 i)) = 1#1
  · simp [idle0, h]
  · simp [idle0, (cond2_iff _).2 h]
theorem idle_7 (pf : pre0.Contents (Elt F)) (i : grid0.Coords) : idle0 pf 7 i = false := by
  by_cases h : k0_cond1 (pf.atD 0 (k0_off1 i)) = 1#1
  · simp [idle0, h]
  · simp [idle0, (cond2_iff _).2 h]

/-! ## The kernel body on any staging memrefs: a subtype the run finds -/

/-- One staging buffer of output window 6, through which its contents are stated (`View.read_writes_of_cover`: the
    choice does not matter). -/
abbrev VO0_6 : View sig .tc .vmem S1x1x16x512 .f32 := (Memref.whole cc0_stg6_0 : Memref sig .tc .vmem S1x1x16x512 .f32).view
/-- One staging buffer of output window 7, through which its contents are stated (`View.read_writes_of_cover`: the
    choice does not matter). -/
abbrev VO0_7 : View sig .tc .vmem S1x1x1x512 .f32 := (Memref.whole cc0_stg7_0 : Memref sig .tc .vmem S1x1x1x512 .f32).view
/-- Each window's current staging memref at point `t`, spelled as the pipeline passes it (`bodyAt0`), and its wholeness. -/
abbrev ms0_0 (hO : Ok m) (t : Fin (cfgM m hO).N) : Memref sig .tc .vmem S1x1x64x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x512x64 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x64x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x64x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x16x512 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1x512 .f32 := spec0_7.stage ((cfgM m hO).slots t 7)
abbrev hs0_7 (hO : Ok m) (t : Fin (cfgM m hO).N) : (ms0_7 m hO t).IsWhole := hstage0_7 (((cfgM m hO).slots t 7).cast nbuf0_7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_twin_uniform_search (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

end Cert.KernelIdeal.Body

end
-- ==== Proof.KernelIdeal.RunA.lean ====
/- The run of the body of `Cert.KernelIdeal` when both query tiles hold valid queries (the length is above 256). -/
module

public import proofs.«01_k».proof.Proof.KernelIdeal.Shared

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when both query tiles hold valid queries (the length is above 256): what its stores leave in the two output blocks, as
    the list of stored pieces (last first), with the proof that the body runs to the continuation holding the inputs as
    they were and the outputs with these pieces written. -/
def runA (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) :
    Σ' (L6 : List (View.Piece (Elt F) S1x1x16x512 .f32)), { L7 : List (View.Piece (Elt F) S1x1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ tbPt0 c tbM0_0 xt0) -∗ K ⟨⟩))
          ⊢ wp frame (wpE (defs₀ (F := F)) Variants.none c none) E (cc0_twin_uniform_search i tbM0_0 htbM0_0 arg3 harg3 arg4 harg4 arg5 harg5 arg6 harg6 arg7 harg7 arg8 harg8 arg9 harg9 arg10 harg10) K } := by
  refine ⟨?_, ?_, fun E K => ?run⟩
  case run =>
    simp only [cc0_twin_uniform_search_eq_skeleton]; unfold cc0_twin_uniform_search_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexact HT0

/-- The pieces stored to output window 6 tile its block, so they cover it. -/
theorem coverA_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) (y : S1x1x16x512.Idx) :
    ∃ pc ∈ (runA c i arg3 harg3 arg4 harg4 arg5 harg5 arg6 harg6 arg7 harg7 arg8 harg8 arg9 harg9 arg10 harg10 x0 x1 x2 x3 x4 x5 xt0 hc1 hc2 hc3 hc4).1, y ∈ pc.1.set :=
  View.cover_of_tiledL (runA c i arg3 harg3 arg4 harg4 arg5 harg5 arg6 harg6 arg7 harg7 arg8 harg8 arg9 harg9 arg10 harg10 x0 x1 x2 x3 x4 x5 xt0 hc1 hc2 hc3 hc4).1 S1x1x16x256.size (by sl_kernel_rfl) y

/-- What the run leaves in output window 6's block: its pieces read back. -/
def outA_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) : Vec F S1x1x16x512 .f32 :=
  VO0_6.read (Elt F) (VO0_6.writes (Elt F) VO0_6.junk (runA c i arg3 harg3 arg4 harg4 arg5 harg5 arg6 harg6 arg7 harg7 arg8 harg8 arg9 harg9 arg10 harg10 x0 x1 x2 x3 x4 x5 xt0 hc1 hc2 hc3 hc4).1)

/-- The pieces stored to output window 7 tile its block, so they cover it. -/
theorem coverA_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) (y : S1x1x1x512.Idx) :
    ∃ pc ∈ (runA c i arg3 harg3 arg4 harg4 arg5 harg5 arg6 harg6 arg7 harg7 arg8 harg8 arg9 harg9 arg10 harg10 x0 x1 x2 x3 x4 x5 xt0 hc1 hc2 hc3 hc4).2.1, y ∈ pc.1.set :=
  View.cover_of_tiledL (runA c i arg3 harg3 arg4 harg4 arg5 harg5 arg6 harg6 arg7 harg7 arg8 harg8 arg9 harg9 arg10 harg10 x0 x1 x2 x3 x4 x5 xt0 hc1 hc2 hc3 hc4).2.1 S1x1x1x256.size (by sl_kernel_rfl) y

/-- What the run leaves in output window 7's block: its pieces read back. -/
def outA_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) : Vec F S1x1x1x512 .f32 :=
  VO0_7.read (Elt F) (VO0_7.writes (Elt F) VO0_7.junk (runA c i arg3 harg3 arg4 harg4 arg5 harg5 arg6 harg6 arg7 harg7 arg8 harg8 arg9 harg9 arg10 harg10 x0 x1 x2 x3 x4 x5 xt0 hc1 hc2 hc3 hc4).2.1)

end Cert.KernelIdeal.Body

end
-- ==== Proof.KernelIdeal.RunB.lean ====
/- The run of the body of `Cert.KernelIdeal` when only the first query tile holds valid queries (the length is in 1..256). -/
module

public import proofs.«01_k».proof.Proof.KernelIdeal.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when only the first query tile holds valid queries (the length is in 1..256): what its stores leave in the two output blocks, as
    the list of stored pieces (last first), with the proof that the body runs to the continuation holding the inputs as
    they were and the outputs with these pieces written. -/
def runB (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) :
    Σ' (L6 : List (View.Piece (Elt F) S1x1x16x512 .f32)), { L7 : List (View.Piece (Elt F) S1x1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ tbPt0 c tbM0_0 xt0) -∗ K ⟨⟩))
          ⊢ wp frame (wpE (defs₀ (F := F)) Variants.none c none) E (cc0_twin_uniform_search i tbM0_0 htbM0_0 arg3 harg3 arg4 harg4 arg5 harg5 arg6 harg6 arg7 harg7 arg8 harg8 arg9 harg9 arg10 harg10) K } := by
  refine ⟨?_, ?_, fun E K => ?run⟩
  case run =>
    simp only [cc0_twin_uniform_search_eq_skeleton]; unfold cc0_twin_uniform_search_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexact HT0

/-- The pieces stored to output window 6 tile its block, so they cover it. -/
theorem coverB_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) (y : S1x1x16x512.Idx) :
    ∃ pc ∈ (runB c i arg3 harg3 arg4 harg4 arg5 harg5 arg6 harg6 arg7 harg7 arg8 harg8 arg9 harg9 arg10 harg10 x0 x1 x2 x3 x4 x5 xt0 hc1 hc2 hc3 hc4).1, y ∈ pc.1.set :=
  View.cover_of_tiledL (runB c i arg3 harg3 arg4 harg4 arg5 harg5 arg6 harg6 arg7 harg7 arg8 harg8 arg9 harg9 arg10 harg10 x0 x1 x2 x3 x4 x5 xt0 hc1 hc2 hc3 hc4).1 S1x1x16x256.size (by sl_kernel_rfl) y

/-- What the run leaves in output window 6's block: its pieces read back. -/
def outB_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) : Vec F S1x1x16x512 .f32 :=
  VO0_6.read (Elt F) (VO0_6.writes (Elt F) VO0_6.junk (runB c i arg3 harg3 arg4 harg4 arg5 harg5 arg6 harg6 arg7 harg7 arg8 harg8 arg9 harg9 arg10 harg10 x0 x1 x2 x3 x4 x5 xt0 hc1 hc2 hc3 hc4).1)

/-- The pieces stored to output window 7 tile its block, so they cover it. -/
theorem coverB_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) (y : S1x1x1x512.Idx) :
    ∃ pc ∈ (runB c i arg3 harg3 arg4 harg4 arg5 harg5 arg6 harg6 arg7 harg7 arg8 harg8 arg9 harg9 arg10 harg10 x0 x1 x2 x3 x4 x5 xt0 hc1 hc2 hc3 hc4).2.1, y ∈ pc.1.set :=
  View.cover_of_tiledL (runB c i arg3 harg3 arg4 harg4 arg5 harg5 arg6 harg6 arg7 harg7 arg8 harg8 arg9 harg9 arg10 harg10 x0 x1 x2 x3 x4 x5 xt0 hc1 hc2 hc3 hc4).2.1 S1x1x1x256.size (by sl_kernel_rfl) y

/-- What the run leaves in output window 7's block: its pieces read back. -/
def outB_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) : Vec F S1x1x1x512 .f32 :=
  VO0_7.read (Elt F) (VO0_7.writes (Elt F) VO0_7.junk (runB c i arg3 harg3 arg4 harg4 arg5 harg5 arg6 harg6 arg7 harg7 arg8 harg8 arg9 harg9 arg10 harg10 x0 x1 x2 x3 x4 x5 xt0 hc1 hc2 hc3 hc4).2.1)

end Cert.KernelIdeal.Body

end
-- ==== Proof.KernelIdeal.RunC.lean ====
/- The run of the body of `Cert.KernelIdeal` when no query is valid (the length is not positive). -/
module

public import proofs.«01_k».proof.Proof.KernelIdeal.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when no query is valid (the length is not positive): what its stores leave in the two output blocks, as
    the list of stored pieces (last first), with the proof that the body runs to the continuation holding the inputs as
    they were and the outputs with these pieces written. -/
def runC (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) :
    Σ' (L6 : List (View.Piece (Elt F) S1x1x16x512 .f32)), { L7 : List (View.Piece (Elt F) S1x1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ tbPt0 c tbM0_0 xt0) -∗ K ⟨⟩))
          ⊢ wp frame (wpE (defs₀ (F := F)) Variants.none c none) E (cc0_twin_uniform_search i tbM0_0 htbM0_0 arg3 harg3 arg4 harg4 arg5 harg5 arg6 harg6 arg7 harg7 arg8 harg8 arg9 harg9 arg10 harg10) K } := by
  refine ⟨?_, ?_, fun E K => ?run⟩
  case run =>
    simp only [cc0_twin_uniform_search_eq_skeleton]; unfold cc0_twin_uniform_search_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexact HT0

/-- The pieces stored to output window 6 tile its block, so they cover it. -/
theorem coverC_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) (y : S1x1x16x512.Idx) :
    ∃ pc ∈ (runC c i arg3 harg3 arg4 harg4 arg5 harg5 arg6 harg6 arg7 harg7 arg8 harg8 arg9 harg9 arg10 harg10 x0 x1 x2 x3 x4 x5 xt0 hc1 hc2 hc3 hc4).1, y ∈ pc.1.set :=
  View.cover_of_tiledL (runC c i arg3 harg3 arg4 harg4 arg5 harg5 arg6 harg6 arg7 harg7 arg8 harg8 arg9 harg9 arg10 harg10 x0 x1 x2 x3 x4 x5 xt0 hc1 hc2 hc3 hc4).1 S1x1x16x256.size (by sl_kernel_rfl) y

/-- What the run leaves in output window 6's block: its pieces read back. -/
def outC_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) : Vec F S1x1x16x512 .f32 :=
  VO0_6.read (Elt F) (VO0_6.writes (Elt F) VO0_6.junk (runC c i arg3 harg3 arg4 harg4 arg5 harg5 arg6 harg6 arg7 harg7 arg8 harg8 arg9 harg9 arg10 harg10 x0 x1 x2 x3 x4 x5 xt0 hc1 hc2 hc3 hc4).1)

/-- The pieces stored to output window 7 tile its block, so they cover it. -/
theorem coverC_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) (y : S1x1x1x512.Idx) :
    ∃ pc ∈ (runC c i arg3 harg3 arg4 harg4 arg5 harg5 arg6 harg6 arg7 harg7 arg8 harg8 arg9 harg9 arg10 harg10 x0 x1 x2 x3 x4 x5 xt0 hc1 hc2 hc3 hc4).2.1, y ∈ pc.1.set :=
  View.cover_of_tiledL (runC c i arg3 harg3 arg4 harg4 arg5 harg5 arg6 harg6 arg7 harg7 arg8 harg8 arg9 harg9 arg10 harg10 x0 x1 x2 x3 x4 x5 xt0 hc1 hc2 hc3 hc4).2.1 S1x1x1x256.size (by sl_kernel_rfl) y

/-- What the run leaves in output window 7's block: its pieces read back. -/
def outC_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) : Vec F S1x1x1x512 .f32 :=
  VO0_7.read (Elt F) (VO0_7.writes (Elt F) VO0_7.junk (runC c i arg3 harg3 arg4 harg4 arg5 harg5 arg6 harg6 arg7 harg7 arg8 harg8 arg9 harg9 arg10 harg10 x0 x1 x2 x3 x4 x5 xt0 hc1 hc2 hc3 hc4).2.1)

end Cert.KernelIdeal.Body

end
-- ==== Proof.KernelIdeal.Sound.lean ====
/- The frame certificate of `Cert.KernelIdeal`: what the outputs hold after each point, the pipeline's proof data, the body
   obligation, the run of @main and the frame claim. -/
module

public import proofs.«01_k».proof.Proof.KernelIdeal.RunC

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the two output blocks hold after the body at point `t`. -/
def outsAt0 (hO : Ok m) (c : Dev nD) (t : Fin (cfgM m hO).N) : Vec F S1x1x16x512 .f32 × Vec F S1x1x1x512 .f32 :=
  if h1 : k0_cond1 (word c (grid0.coords t) (tbl m 0)) = 1#1 then
    if h3 : k0_cond3 (word c (grid0.coords t) (tbl m 0)) = 1#1 then
      (outA_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3), outA_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3))
    else
      (outB_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3), outB_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3))
  else
    (outC_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h)), outC_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h)))

theorem outsAt0_A (hO : Ok m) (c : Dev nD) (t : Fin (cfgM m hO).N) (h1 : k0_cond1 (word c (grid0.coords t) (tbl m 0)) = 1#1) (h3 : k0_cond3 (word c (grid0.coords t) (tbl m 0)) = 1#1) :
    outsAt0 m hO c t = (outA_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3), outA_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3)) := by
  unfold outsAt0; exact (dif_pos h1).trans ((dif_pos h3).trans rfl)

theorem outsAt0_B (hO : Ok m) (c : Dev nD) (t : Fin (cfgM m hO).N) (h1 : k0_cond1 (word c (grid0.coords t) (tbl m 0)) = 1#1) (h3 : ¬ k0_cond3 (word c (grid0.coords t) (tbl m 0)) = 1#1) :
    outsAt0 m hO c t = (outB_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3), outB_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3)) := by
  unfold outsAt0; exact (dif_pos h1).trans ((dif_neg h3).trans rfl)

theorem outsAt0_C (hO : Ok m) (c : Dev nD) (t : Fin (cfgM m hO).N) (h1 : ¬ k0_cond1 (word c (grid0.coords t) (tbl m 0)) = 1#1) :
    outsAt0 m hO c t = (outC_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h)), outC_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h))) := by
  unfold outsAt0; exact (dif_neg h1).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t).1
    | ⟨7, _⟩ => (outsAt0 m hO c t).2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t).1 := by dsimp only [dats]; try rfl
theorem after0_7 (hO : Ok m) (c : Dev nD) (t : Fin (cfgM m hO).N) : (dats m hO 0 c).after 7 t = (outsAt0 m hO c t).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 3200000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq]
  by_cases h1 : k0_cond1 (word c (grid0.coords t) (tbl m 0)) = 1#1
  · by_cases h3 : k0_cond3 (word c (grid0.coords t) (tbl m 0)) = 1#1
    · rw [outsAt0_A m hO c t h1 h3]
      unfold outA_6 outA_7; (try dsimp only)
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HT0]; · iexact HT0
      iintro ⟨H0, H1, H2, H3, H4, H5, ⟨%e6, H6⟩, ⟨%e7, H7⟩, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA_6 c _ _ _ _ _ _ _ _ _ _ _ _ _ _ _ _ _ _ _ _ _ _ _ _ _ _ _ _ )
      unfold owns; iexists _; isplitr
      swap; · iexact H7
      ipureintro; exact View.read_writes_of_cover _ _ _ _ _ (coverA_7 c _ _ _ _ _ _ _ _ _ _ _ _ _ _ _ _ _ _ _ _ _ _ _ _ _ _ _ _ )
    · rw [outsAt0_B m hO c t h1 h3]
      unfold outB_6 outB_7; (try dsimp only)
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) _ _ _ _ _ _ _ _ _ _ _ _ _ _ _ _ (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HT0]; · iexact HT0
      iintro ⟨H0, H1, H2, H3, H4, H5, ⟨%e6, H6⟩, ⟨%e7, H7⟩, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverB_6 c _ _ _ _ _ _ _ _ _ _ _ _ _ _ _ _ _ _ _ _ _ _ _ _ _ _ _ _ )
      unfold owns; iexists _; isplitr
      swap; · iexact H7
      ipureintro; exact View.read_writes_of_cover _ _ _ _ _ (coverB_7 c _ _ _ _ _ _ _ _ _ _ _ _ _ _ _ _ _ _ _ _ _ _ _ _ _ _ _ _ )
  · rw [outsAt0_C m hO c t h1]
    unfold outC_6 outC_7; (try dsimp only)
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runC c (grid0.coords t) _ _ _ _ _ _ _ _ _ _ _ _ _ _ _ _ (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h))).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HT0]; · iexact HT0
    iintro ⟨H0, H1, H2, H3, H4, H5, ⟨%e6, H6⟩, ⟨%e7, H7⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverC_6 c _ _ _ _ _ _ _ _ _ _ _ _ _ _ _ _ _ _ _ _ _ _ _ _ _ _ _ _ )
    unfold owns; iexists _; isplitr
    swap; · iexact H7
    ipureintro; exact View.read_writes_of_cover _ _ _ _ _ (coverC_7 c _ _ _ _ _ _ _ _ _ _ _ _ _ _ _ _ _ _ _ _ _ _ _ _ _ _ _ _ )

end Cert.KernelIdeal.Body

end
-- ==== Proof.KernelIdeal.Frame.lean ====
/- The run of @main of `Cert.KernelIdeal` and the frame claim. -/
module

public import proofs.«01_k».proof.Proof.KernelIdeal.Sound

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No window is idle at any point. -/
theorem idle_none (hO : Ok m) (w : Fin (cfgM m hO).W) (t : Fin (cfgM m hO).N) :
    (cfgM m hO).idle w ((cfgM m hO).grid.coords t) = false := by
  show idle0 (tbl m) w (grid0.coords t) = false
  generalize grid0.coords t = i
  generalize tbl m = pf
  revert w
  show ∀ w : Fin 8, idle0 pf w i = false
  intro w
  fin_cases w
  · rfl
  · rfl
  · rfl
  · rfl
  · rfl
  · rfl
  · exact idle_6 pf i
  · exact idle_7 pf i

/-- The library's body obligation, at every point: the body's triple restated. -/
theorem body_obligation (hO : Ok m) (c : Dev nD) : BodyObligation (dats (F := F) m hO 0 c) (defs₀ (F := F)) Variants.none () Set.univ := fun t => by
  refine Live.obligation (dats (F := F) m hO 0 c) (defs₀ (F := F)) Variants.none Set.univ (idle_none m hO) ?_ t
  intro t
  rw [bigSep_W0, bigSep_W0, defs₀_row m hO]
  exact triple_restated (sound_body m hO c t) rfl .rfl fun _ => .rfl

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame claim at any `F`, from any memory whose lengths table is admissible (every table is). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Body

end
-- ==== Proof.Value.Tile.lean ====
/- What the kernel's body computes for one tile of 256 queries, as functions of the blocks it loads: the scores, the
   softmax, one candidate's row, the sixteen rows and the log-sum-exp. The body's stored pieces are these. -/
module

public import proofs.«01_k».proof.Proof.KernelIdeal.Sound
public import Idealize.ShloMosaic.Lib.WholeRead

@[expose] public section

set_option maxRecDepth 16384

noncomputable section

namespace Cert.Value

open Cert.KernelIdeal Cert.KernelIdeal.Gen Cert.KernelIdeal.Body
open Idealize.ShloMosaic Idealize.ShloMosaic.TcCoe Idealize.ShloMosaic.Tactic Idealize.SL.Sem

variable {F : FTy → Type} [FloatOps F] [Named F]

/-- One candidate's row over a tile: the probabilities below the bound `b` rounded to the step `t` (its reciprocal `n`) and
    clipped at `t7`, the others the large levels; the values weighted by these minus the exact output, times the output's
    gradient; the squares summed over the features. -/
def rowOf (v17 : FVec F S64x512 .bf16) (v55 : FVec F S512x256 .f32) (v63 : FVec F S512x256 .bf16)
    (v65 : FVec F S64x256 .f32) (v68 : FVec F S64x256 .f32) (b n t t7 : BitVec 32) : FVec F S1x256 .f32 :=
  have v120 : FVec F S512x256 .f32 := broadcast S512x256 (Scalar.ofBits .f32 b)
  have v121 : IVec S512x256 1 := cmpf .olt v55 v120
  have v122 : FVec F S512x256 .f32 := broadcast S512x256 (Scalar.ofBits .f32 n)
  have v123 : FVec F S512x256 .f32 := mulf v55 v122
  have v124 : FVec F S512x256 .f32 := roundeven v123
  have v125 : FVec F S512x256 .f32 := broadcast S512x256 (Scalar.ofBits .f32 t)
  have v126 : FVec F S512x256 .f32 := mulf v124 v125
  have v127 : FVec F S512x256 .f32 := broadcast S512x256 (Scalar.ofBits .f32 t7)
  have v128 : FVec F S512x256 .f32 := minimumf v126 v127
  have v129 : FVec F S512x256 .bf16 := truncf .bf16 v128 bitsLt_bf16_f32
  have v130 : FVec F S512x256 .bf16 := select v121 v129 v63
  have cst_60 : FVec F S64x256 .f32 := constant S64x256 .f32 0x00000000#32
  have v131 : FVec F S64x256 .f32 := matmul dot_S64x512_S512x256_S64x256_1_0_0_1_n_n none v17 v130 cst_60
  have v132 : FVec F S64x256 .f32 := subf v131 v65
  have v133 : FVec F S64x256 .f32 := mulf v132 v68
  have v134 : FVec F S64x256 .f32 := mulf v133 v133
  have v135 : FVec F S256 .f32 := multiReduction .add [0] S256 v134 0x00000000#32 reduces_S64x256_S256 (.inl rfl) rfl
  shapeCast S1x256 v135 shapeCasts_S256_S1x256

/-- A tile's loaded blocks: the length `w`, the key scales, the keys, the tile's queries and their scales, the values and
    the tile's gradient. The candidate's row from them. -/
def tileRow (w : Elt F .i32) (ks : Vec F S1x1x1x512 .f32) (k : Vec F S1x1x512x64 .fp8e4m3) (q : Vec F S1x1x64x256 .fp8e4m3)
    (qs : Vec F S1x1x1x256 .f32) (v : Vec F S1x1x64x512 .bf16) (g : Vec F S1x1x64x256 .bf16) (b n t t7 : BitVec 32) :
    FVec F S1x256 .f32 :=
  rowOf (shapeCast S64x512 v shapeCasts_S1x1x64x512_S64x512) (k0_pay22 (k0_pay1 ks) (k0_pay2 w) k q qs)
    (k0_pay23 (k0_pay1 ks) (k0_pay2 w) k q qs)
    (k0_pay24 (k0_pay1 ks) (k0_pay2 w) (shapeCast S64x512 v shapeCasts_S1x1x64x512_S64x512) k q qs) (k0_pay25 g) b n t t7

/-- The sixteen candidates' rows of a tile, zero at queries beyond the length. -/
def tileRows (ok : IVec S1x256 1) (w : Elt F .i32) (ks : Vec F S1x1x1x512 .f32) (k : Vec F S1x1x512x64 .fp8e4m3)
    (q : Vec F S1x1x64x256 .fp8e4m3) (qs : Vec F S1x1x1x256 .f32) (v : Vec F S1x1x64x512 .bf16) (g : Vec F S1x1x64x256 .bf16) :
    FVec F S1x1x16x256 .f32 :=
  k0_pay7 (concatenate S16x256 0 [
      ⟨S1x256, tileRow w ks k q qs v g 0x3F000000#32 0x41800000#32 0x3D800000#32 0x3EE00000#32⟩,
      ⟨S1x256, tileRow w ks k q qs v g 0x3E800000#32 0x42000000#32 0x3D000000#32 0x3E600000#32⟩,
      ⟨S1x256, tileRow w ks k q qs v g 0x3E000000#32 0x42800000#32 0x3C800000#32 0x3DE00000#32⟩,
      ⟨S1x256, tileRow w ks k q qs v g 0x3D800000#32 0x43000000#32 0x3C000000#32 0x3D600000#32⟩,
      ⟨S1x256, tileRow w ks k q qs v g 0x3D000000#32 0x43800000#32 0x3B800000#32 0x3CE00000#32⟩,
      ⟨S1x256, tileRow w ks k q qs v g 0x3C800000#32 0x44000000#32 0x3B000000#32 0x3C600000#32⟩,
      ⟨S1x256, tileRow w ks k q qs v g 0x3C000000#32 0x44800000#32 0x3A800000#32 0x3BE00000#32⟩,
      ⟨S1x256, tileRow w ks k q qs v g 0x3B800000#32 0x45000000#32 0x3A000000#32 0x3B600000#32⟩,
      ⟨S1x256, tileRow w ks k q qs v g 0x3B000000#32 0x45800000#32 0x39800000#32 0x3AE00000#32⟩,
      ⟨S1x256, tileRow w ks k q qs v g 0x3A800000#32 0x46000000#32 0x39000000#32 0x3A600000#32⟩,
      ⟨S1x256, tileRow w ks k q qs v g 0x3A000000#32 0x46800000#32 0x38800000#32 0x39E00000#32⟩,
      ⟨S1x256, tileRow w ks k q qs v g 0x39800000#32 0x47000000#32 0x38000000#32 0x39600000#32⟩,
      ⟨S1x256, tileRow w ks k q qs v g 0x39000000#32 0x47800000#32 0x37800000#32 0x38E00000#32⟩,
      ⟨S1x256, tileRow w ks k q qs v g 0x38800000#32 0x48000000#32 0x37000000#32 0x38600000#32⟩,
      ⟨S1x256, tileRow w ks k q qs v g 0x38000000#32 0x48800000#32 0x36800000#32 0x37E00000#32⟩,
      ⟨S1x256, tileRow w ks k q qs v g 0x37800000#32 0x49000000#32 0x36000000#32 0x37600000#32⟩] concatenates_S1x256_S1x256_S1x256_S1x256_S1x256_S1x256_S1x256_S1x256_S1x256_S1x256_S1x256_S1x256_S1x256_S1x256_S1x256_S1x256_S16x256_d0) ok

/-- A tile's log-sum-exp minus the length's logarithm, zero at queries beyond the length. -/
def tileLse (ok : IVec S1x256 1) (w : Elt F .i32) (ks : Vec F S1x1x1x512 .f32) (k : Vec F S1x1x512x64 .fp8e4m3)
    (q : Vec F S1x1x64x256 .fp8e4m3) (qs : Vec F S1x1x1x256 .f32) : FVec F S1x1x1x256 .f32 :=
  k0_pay8 w (k0_pay19 (k0_pay1 ks) (k0_pay2 w) k q qs) (k0_pay21 (k0_pay1 ks) (k0_pay2 w) k q qs) ok

/-- A load of a rectangle of a block: the block at the rectangle's placement. -/
def ld {s : Shape} {e : EltTy} (x : Vec F s e) (B : Rect s) : Vec F B.shape e := fun j => x (B.idx j)

theorem readAt_ld {s : Shape} {e : EltTy} {m : Memref sig .tc .vmem s e} (h : m.IsWhole) (x : Vec F s e) (B : Rect s) :
    View.readAt (Elt F) m.view B.toLoadRect (h.unread x) = ld x B :=
  funext fun j => h.readAt_unread x B.toLoadRect j

end Cert.Value

end
-- ==== Proof.Value.Softmax.lean ====
/- The softmax over the extended reals: the base-two form with scores scaled by `1 / ln 2` agrees with the natural one at
   every score, the infinite ones too, and its probabilities are real numbers between zero and one. -/
module

public import Idealize.ShloMosaic.PureOps.Ideal

@[expose] public section

noncomputable section

namespace Cert.Value

open Idealize.ShloMosaic

/-- `1 / ln 2`, the factor that turns natural exponents into exponents of two. -/
def log2e : ℝ := (Real.log 2)⁻¹

theorem log2e_pos : 0 < log2e := inv_pos.2 (Real.log_pos (by norm_num))

variable {n : ℕ}

/-- The largest score of a row, `⊥` for none. -/
def mx (s : Fin n → EReal) : EReal := Finset.univ.fold max ⊥ s

/-- The row's exponentials, relative to its largest score, and their total. -/
def ex (s : Fin n → EReal) (k : Fin n) : EReal := Ideal.exp (s k - mx s)
def tot (s : Fin n → EReal) : EReal := ∑ k, ex s k

/-- A key's probability, in the logarithmic form, and the logarithm of the sum of exponentials. -/
def prob (s : Fin n → EReal) (k : Fin n) : EReal := Ideal.exp ((s k - mx s) - Ideal.log (tot s))
def lse (s : Fin n → EReal) : EReal := mx s + Ideal.log (tot s)

/-- A positive real factor is monotone, so it passes through the maximum. -/
theorem max_mul (a b : EReal) {c : ℝ} (hc : 0 < c) : max a b * (c : EReal) = max (a * c) (b * c) :=
  Monotone.map_max (f := fun x : EReal => x * (c : EReal))
    fun _ _ h => mul_le_mul_of_nonneg_right h (EReal.coe_nonneg.2 hc.le)

theorem mx_mul (s : Fin n → EReal) {c : ℝ} (hc : 0 < c) : mx (fun k => s k * (c : EReal)) = mx s * c := by
  unfold mx
  have h := Finset.fold_hom (op := max) (op' := max) (s := Finset.univ) (b := (⊥ : EReal)) (f := s)
    (m := fun x : EReal => x * (c : EReal)) (fun x y => (max_mul x y hc))
  rw [← h]
  simp only [EReal.bot_mul_coe_of_pos hc]

theorem sub_mul' (a b : EReal) {c : ℝ} (hc : 0 < c) : a * (c : EReal) - b * c = (a - b) * c := by
  rw [sub_eq_add_neg, sub_eq_add_neg, mul_comm _ (c : EReal), mul_comm b, mul_comm (a + -b),
    EReal.left_distrib_of_nonneg_of_ne_top (EReal.coe_nonneg.2 hc.le) (EReal.coe_ne_top c), mul_neg]

theorem add_mul' (a b : EReal) {c : ℝ} (hc : 0 < c) : a * (c : EReal) + b * c = (a + b) * c := by
  rw [mul_comm _ (c : EReal), mul_comm b, mul_comm (a + b),
    EReal.left_distrib_of_nonneg_of_ne_top (EReal.coe_nonneg.2 hc.le) (EReal.coe_ne_top c)]

/-- A power of two at an exponent scaled by `1 / ln 2` is the exponential. -/
theorem exp2_mul (x : EReal) : Ideal.exp2 (x * (log2e : EReal)) = Ideal.exp x := by
  induction x with
  | bot => rw [EReal.bot_mul_coe_of_pos log2e_pos]; rfl
  | top => rw [EReal.top_mul_coe_of_pos log2e_pos]; rfl
  | coe r =>
    rw [← EReal.coe_mul, Ideal.exp2_coe, Ideal.exp_coe]
    show (((2 : ℝ) ^ (r * log2e) : ℝ) : EReal) = _
    rw [Real.rpow_def_of_pos (by norm_num : (0 : ℝ) < 2)]
    congr 2
    unfold log2e
    have : Real.log 2 ≠ 0 := (Real.log_pos (by norm_num)).ne'
    field_simp

theorem ex2_eq (s : Fin n → EReal) (k : Fin n) :
    Ideal.exp2 (s k * (log2e : EReal) - mx (fun k => s k * (log2e : EReal))) = ex s k := by
  rw [mx_mul s log2e_pos, sub_mul' _ _ log2e_pos, exp2_mul]; rfl

theorem lse2_eq (s : Fin n → EReal) :
    (mx (fun k => s k * (log2e : EReal)) + Ideal.log (tot s) * (log2e : EReal)) * ((Real.log 2 : ℝ) : EReal) = lse s := by
  rw [mx_mul s log2e_pos, add_mul' _ _ log2e_pos, mul_assoc, ← EReal.coe_mul]
  have : log2e * Real.log 2 = 1 := inv_mul_cancel₀ (Real.log_pos (by norm_num)).ne'
  rw [this, EReal.coe_one, mul_one]; rfl

theorem le_mx (s : Fin n → EReal) (k : Fin n) : s k ≤ mx s :=
  Finset.le_fold_max (s := Finset.univ) (s k) |>.2 (Or.inr ⟨k, Finset.mem_univ _, le_rfl⟩)

/-- The largest score is `⊥` or is attained. -/
theorem mx_attained (s : Fin n → EReal) : mx s = ⊥ ∨ ∃ k, s k = mx s := by
  by_cases h : mx s = ⊥
  · exact Or.inl h
  · right
    rcases (Finset.le_fold_max (s := Finset.univ) (f := s) (b := ⊥) (mx s)).1 le_rfl with h' | ⟨k, _, hk⟩
    · exact absurd (le_bot_iff.1 h') h
    · exact ⟨k, le_antisymm (le_mx s k) hk⟩

/-- Either every exponential is zero, or they are real numbers in the unit interval with a positive total. -/
theorem ex_cases (s : Fin n → EReal) :
    ((∀ k, s k - mx s = ⊥) ) ∨
    (∃ e : Fin n → ℝ, (∀ k, ex s k = (e k : EReal)) ∧ (∀ k, 0 ≤ e k) ∧ (∃ k, 0 < e k)
      ∧ ∀ k, (s k - mx s = ⊥ ∧ e k = 0) ∨ (∃ r : ℝ, s k - mx s = (r : EReal) ∧ e k = Real.exp r)) := by
  induction h : mx s with
  | bot =>
    left; intro k
    have := le_mx s k; rw [h] at this
    rw [le_bot_iff.1 this]; rfl
  | top => left; intro k; exact EReal.sub_top _
  | coe m =>
    right
    have hk : ∀ k, (s k - mx s = ⊥) ∨ ∃ r : ℝ, s k - mx s = (r : EReal) := by
      intro k
      have hle := le_mx s k
      rw [h] at hle ⊢
      induction hs : s k with
      | bot => left; rfl
      | top => rw [hs] at hle; exact absurd (top_le_iff.1 hle) (EReal.coe_ne_top m)
      | coe r => right; exact ⟨r - m, by rw [EReal.coe_sub]⟩
    refine ⟨fun k => (ex s k).toReal, ?_, ?_, ?_, ?_⟩
    · intro k
      rcases hk k with hb | ⟨r, hr⟩
      · simp [ex, hb]
      · simp [ex, hr]
    · intro k
      rcases hk k with hb | ⟨r, hr⟩
      · simp [ex, hb]
      · simp [ex, hr, Real.exp_nonneg]
    · rcases mx_attained s with hb | ⟨k, hk'⟩
      · rw [h] at hb; exact absurd hb (EReal.coe_ne_bot m)
      · refine ⟨k, ?_⟩
        have : s k - mx s = ((0 : ℝ) : EReal) := by rw [hk', h, ← EReal.coe_sub, sub_self]
        simp only [ex, this, Ideal.exp_coe, Real.exp_zero, EReal.toReal_coe, zero_lt_one]
    · intro k
      rcases hk k with hb | ⟨r, hr⟩
      · left; exact ⟨by rw [← h]; exact hb, by simp [ex, hb]⟩
      · right; exact ⟨r, by rw [← h]; exact hr, by simp [ex, hr]⟩

theorem coe_sum (e : Fin n → ℝ) : (∑ k, ((e k : ℝ) : EReal)) = ((∑ k, e k : ℝ) : EReal) := by
  induction (Finset.univ : Finset (Fin n)) using Finset.induction_on with
  | empty => simp
  | insert a t ha ih => rw [Finset.sum_insert ha, Finset.sum_insert ha, ih, EReal.coe_add]

/-- The exponential times the reciprocal of the total is the logarithmic form, a real number in the unit interval. -/
theorem prob_eq (s : Fin n → EReal) (k : Fin n) :
    ex s k * Ideal.div 1 (tot s) = prob s k ∧ ∃ p : ℝ, 0 ≤ p ∧ p ≤ 1 ∧ prob s k = (p : EReal) := by
  rcases ex_cases s with h | ⟨e, he, h0, ⟨k0, hk0⟩, hc⟩
  · have hz : ∀ k, ex s k = 0 := fun k => by simp [ex, h k]
    have hp : prob s k = 0 := by
      unfold prob; rw [h k, EReal.bot_sub]; simp
    refine ⟨by rw [hz k, zero_mul, hp], 0, le_rfl, zero_le_one, by rw [hp]; rfl⟩
  · have hT : tot s = ((∑ k, e k : ℝ) : EReal) := by
      unfold tot; rw [← coe_sum]; exact Finset.sum_congr rfl fun k _ => he k
    have hpos : 0 < ∑ k, e k := Finset.sum_pos' (fun k _ => h0 k) ⟨k0, Finset.mem_univ _, hk0⟩
    have hle : e k ≤ ∑ k, e k := Finset.single_le_sum (fun k _ => h0 k) (Finset.mem_univ k)
    have hprob : prob s k = ((e k / ∑ k, e k : ℝ) : EReal) := by
      unfold prob
      rw [hT, Ideal.log_coe, if_neg (not_le.2 hpos)]
      rcases hc k with ⟨hb, hz⟩ | ⟨r, hr, her⟩
      · rw [hb, hz, EReal.bot_sub]; simp
      · rw [hr, ← EReal.coe_sub, Ideal.exp_coe, Real.exp_sub, Real.exp_log hpos, her]
    refine ⟨?_, _, div_nonneg (h0 k) hpos.le, (div_le_one hpos).2 hle, hprob⟩
    rw [hprob, he k, hT]
    have h1 : Ideal.div 1 ((∑ k, e k : ℝ) : EReal) = ((1 / ∑ k, e k : ℝ) : EReal) := by
      rw [Ideal.div_coe hpos.ne', one_mul]
    rw [h1, ← EReal.coe_mul]
    congr 1
    field_simp

end Cert.Value
-- ==== Proof.Value.Payload.lean ====
/- What a tile's blocks hold at an index, over the extended reals: a tile's scores, probabilities, rows and log-sum-exp in
   terms of the loaded blocks. -/
module

public import proofs.«01_k».proof.Proof.Value.Tile
public import proofs.«01_k».proof.Proof.Value.Softmax
public import Idealize.ShloMosaic.Lib.Pointwise

@[expose] public section

set_option maxRecDepth 16384

noncomputable section

namespace Cert.Value

open Cert.KernelIdeal Cert.KernelIdeal.Gen Cert.KernelIdeal.Body
open Idealize.ShloMosaic Idealize.ShloMosaic.TcCoe Idealize.SL.Sem

theorem ofBits_ninf : Ideal.ofBits .f32 0xFF800000#32 = ⊥ := by
  simp [Ideal.ofBits, Ideal.ieee]

/-- The natural score of each key at one query: the scaled product, `⊥` at keys beyond the length. -/
def tScore (w : BitVec 32) (ks : Vec Ideal S1x1x1x512 .f32) (k : Vec Ideal S1x1x512x64 .fp8e4m3)
    (q : Vec Ideal S1x1x64x256 .fp8e4m3) (qs : Vec Ideal S1x1x1x256 .f32) (j : Fin 256) (kk : Fin 512) : EReal :=
  if IntOp.cmpi .slt (BitVec.ofNat 32 kk.val) w = 1#1 then
    ((∑ d : Fin 64, k (ix4 0 0 kk d) * q (ix4 0 0 d j)) * qs (ix4 0 0 0 j) * ks (ix4 0 0 0 kk)) * ((1 / 8 : ℝ) : EReal)
  else ⊥

variable (w : BitVec 32) (ks : Vec Ideal S1x1x1x512 .f32) (k : Vec Ideal S1x1x512x64 .fp8e4m3)
    (q : Vec Ideal S1x1x64x256 .fp8e4m3) (qs : Vec Ideal S1x1x1x256 .f32) (v : Vec Ideal S1x1x64x512 .bf16)
    (g : Vec Ideal S1x1x64x256 .bf16)

theorem kcol_apply (kk : Fin 512) :
    k0_pay1 ks (ix2 kk (0 : Fin 1)) = ks (ix4 0 0 0 kk) * (((1 / 8) * (Real.log 2)⁻¹ : ℝ) : EReal) := by
  simp only [k0_pay1, pointwise]
  have : Named.named (F := Ideal) κ "scale_log2e" (φ := .f32) 0x3E38AA3B#32 = (((1 / 8) * (Real.log 2)⁻¹ : ℝ) : EReal) :=
    IdealRules.named_const.ideal_named_scalar _ _ _ _ rfl
  rw [this]
  refine congrArg (fun z => ks (ix4 0 0 0 z) * _) (Fin.ext ?_)
  exact Nat.zero_add kk.val

theorem kok_apply (kk : Fin 512) :
    k0_pay2 (F := Ideal) w (ix2 kk (0 : Fin 1)) = IntOp.cmpi .slt (BitVec.ofNat 32 kk.val) w := by
  show IntOp.cmpi .slt (iota .tc S512x1 32 [0] iota_S512x1_d0_w32 (ix2 kk (0 : Fin 1))) w = _
  rw [iota_single_apply]; rfl

theorem score_apply (kk : Fin 512) (j : Fin 256) :
    k0_pay18 (k0_pay1 ks) (k0_pay2 (F := Ideal) w) k q qs (ix2 kk j) = tScore w ks k q qs j kk * (log2e : EReal) := by
  simp only [k0_pay18, pointwise]
  show Scalar.select (k0_pay2 (F := Ideal) w (ix2 kk (0 : Fin 1)))
      ((0 + ∑ x, k (ix4 0 0 kk x) * q (ix4 0 0 x j)) * k0_pay1 ks (ix2 kk (0 : Fin 1)) * qs (ix4 0 0 0 j))
      (Ideal.ofBits FTy.f32 0xFF800000#32) = _
  rw [kok_apply, kcol_apply, ofBits_ninf, zero_add]
  unfold tScore
  by_cases h : IntOp.cmpi .slt (BitVec.ofNat 32 kk.val) w = 1#1
  · rw [if_pos h, h]
    show _ * _ * _ = _
    rw [EReal.coe_mul]
    show (∑ x, k (ix4 0 0 kk x) * q (ix4 0 0 x j)) * (ks (ix4 0 0 0 kk) * (((1 / 8 : ℝ) : EReal) * (log2e : EReal))) * qs (ix4 0 0 0 j) = _
    ac_rfl
  · rw [if_neg h, ValueIdx.eq_zero_of_ne_one h]
    exact (EReal.bot_mul_coe_of_pos log2e_pos).symm

theorem max_apply (j : Fin 256) :
    k0_pay19 (k0_pay1 ks) (k0_pay2 (F := Ideal) w) k q qs (ix2 0 j)
      = mx (fun kk => tScore w ks k q qs j kk * (log2e : EReal)) := by
  simp only [k0_pay19, pointwise]
  rw [ofBits_ninf]
  simp only [score_apply]
  rfl

theorem exp_apply (kk : Fin 512) (j : Fin 256) :
    k0_pay20 (k0_pay1 ks) (k0_pay2 (F := Ideal) w) k q qs (ix2 kk j) = ex (tScore w ks k q qs j) kk := by
  simp only [k0_pay20, pointwise]
  show Ideal.exp2 (k0_pay18 (k0_pay1 ks) (k0_pay2 (F := Ideal) w) k q qs (ix2 kk j)
    - k0_pay19 (k0_pay1 ks) (k0_pay2 (F := Ideal) w) k q qs (ix2 0 j)) = _
  rw [score_apply, max_apply]
  exact ex2_eq (tScore w ks k q qs j) kk

theorem tot_apply (j : Fin 256) :
    k0_pay21 (k0_pay1 ks) (k0_pay2 (F := Ideal) w) k q qs (ix2 0 j) = tot (tScore w ks k q qs j) := by
  simp only [k0_pay21, pointwise]
  simp only [exp_apply]
  rfl

theorem prob_apply (kk : Fin 512) (j : Fin 256) :
    k0_pay22 (k0_pay1 ks) (k0_pay2 (F := Ideal) w) k q qs (ix2 kk j) = prob (tScore w ks k q qs j) kk := by
  simp only [k0_pay22, pointwise]
  show k0_pay20 (k0_pay1 ks) (k0_pay2 (F := Ideal) w) k q qs (ix2 kk j)
    * Ideal.div 1 (k0_pay21 (k0_pay1 ks) (k0_pay2 (F := Ideal) w) k q qs (ix2 0 j)) = _
  rw [exp_apply, tot_apply]
  exact (prob_eq (tScore w ks k q qs j) kk).1

/-- The quantised probability as the kernel has it: below the bound rounded to the step and clipped, above it to one eighth. -/
def quantK (b n t t7 : BitVec 32) (p : EReal) : EReal :=
  if p < Ideal.ofBits .f32 b then
    min (Ideal.liftRound Ideal.roundHalfEven (p * Ideal.ofBits .f32 n) * Ideal.ofBits .f32 t) (Ideal.ofBits .f32 t7)
  else min (Ideal.liftRound Ideal.roundHalfEven (p * Ideal.ofBits .f32 0x41000000#32) * Ideal.ofBits .f32 0x3E000000#32)
    (Ideal.ofBits .f32 0x3F600000#32)

/-- The value at feature `d` and key `kk`, and the gradient at feature `d`. -/
theorem v_apply (d : Fin 64) (kk : Fin 512) :
    shapeCast S64x512 v shapeCasts_S1x1x64x512_S64x512 (ix2 d kk) = v (ix4 0 0 d kk) := by
  simp only [pointwise]

/-- A row's entry: the squares of the quantised output minus the exact output, times the gradient, summed. -/
def tRow (b n t t7 : BitVec 32) (P : Fin 512 → EReal) (V : Fin 64 → Fin 512 → EReal) (G : Fin 64 → EReal) : EReal :=
  ∑ d, ((∑ kk, V d kk * quantK b n t t7 (P kk)) - ∑ kk, V d kk * P kk) * G d
    * (((∑ kk, V d kk * quantK b n t t7 (P kk)) - ∑ kk, V d kk * P kk) * G d)

theorem row_apply (b n t t7 : BitVec 32) (j : Fin 256) :
    tileRow (F := Ideal) w ks k q qs v g b n t t7 (ix2 0 j)
      = tRow b n t t7 (prob (tScore w ks k q qs j)) (fun d kk => v (ix4 0 0 d kk)) (fun d => g (ix4 0 0 d j)) := by
  simp only [tileRow, rowOf, k0_pay23, k0_pay24, k0_pay25, pointwise]
  simp only [prob_apply, zero_add]
  rfl

theorem lse_apply (ok : IVec S1x256 1) (j : Fin 256) :
    tileLse (F := Ideal) ok w ks k q qs (ix4 0 0 0 j)
      = Scalar.select (ok (ix2 0 j)) (lse (tScore w ks k q qs j) - Ideal.log (FloatOps.sitofp (F := Ideal) .f32 w)) 0 := by
  simp only [tileLse, k0_pay8, k0_pay3, pointwise]
  have h1 : Named.named (F := Ideal) κ "log2e" (φ := .f32) 0x3FB8AA3B#32 = (((Real.log 2)⁻¹ : ℝ) : EReal) :=
    IdealRules.named_const.ideal_named_scalar _ _ _ _ rfl
  have h2 : Named.named (F := Ideal) κ "ln2" (φ := .f32) 0x3F317218#32 = ((Real.log 2 : ℝ) : EReal) :=
    IdealRules.named_const.ideal_named_scalar _ _ _ _ rfl
  rw [h1, h2, max_apply, tot_apply]
  rw [← lse2_eq]
  rfl

end Cert.Value

end
-- ==== Proof.Value.Quant.lean ====
/- The twin uniform quantiser of a probability: rounding to the step and clipping, as the kernel does it, is the level of
   the integer code times its step, as the codes are read back. -/
module

public import proofs.«01_k».proof.Proof.Value.Payload

@[expose] public section

set_option maxRecDepth 16384

noncomputable section

namespace Cert.Value

open Idealize.ShloMosaic Idealize.ShloMosaic.TcCoe Idealize.SL.Sem

/-- The patterns of a candidate's bound, reciprocal step, step and largest small level. -/
def bB (c : Fin 16) : BitVec 32 := BitVec.ofNat 32 (0x3F000000 - c.val * 0x800000)
def bN (c : Fin 16) : BitVec 32 := BitVec.ofNat 32 (0x41800000 + c.val * 0x800000)
def bT (c : Fin 16) : BitVec 32 := BitVec.ofNat 32 (0x3D800000 - c.val * 0x800000)
def bT7 (c : Fin 16) : BitVec 32 := BitVec.ofNat 32 (0x3EE00000 - c.val * 0x800000)

theorem ofBits_bB (c : Fin 16) : Ideal.ofBits .f32 (bB c) = ((1 / 2 ^ (c.val + 1) : ℝ) : EReal) := by
  fin_cases c <;> (simp [bB, Ideal.ofBits, Ideal.ieee]; norm_num; simp only [← EReal.coe_mul, ← EReal.coe_pow]; exact congrArg Real.toEReal (by norm_num))
theorem ofBits_bN (c : Fin 16) : Ideal.ofBits .f32 (bN c) = ((2 ^ (c.val + 4) : ℝ) : EReal) := by
  fin_cases c <;> (simp [bN, Ideal.ofBits, Ideal.ieee]; norm_num; simp only [← EReal.coe_mul, ← EReal.coe_pow]; exact congrArg Real.toEReal (by norm_num))
theorem ofBits_bT (c : Fin 16) : Ideal.ofBits .f32 (bT c) = ((1 / 2 ^ (c.val + 4) : ℝ) : EReal) := by
  fin_cases c <;> (simp [bT, Ideal.ofBits, Ideal.ieee]; norm_num; simp only [← EReal.coe_mul, ← EReal.coe_pow]; exact congrArg Real.toEReal (by norm_num))
theorem ofBits_bT7 (c : Fin 16) : Ideal.ofBits .f32 (bT7 c) = ((7 * (1 / 2 ^ (c.val + 4)) : ℝ) : EReal) := by
  fin_cases c <;> (simp [bT7, Ideal.ofBits, Ideal.ieee]; norm_num; simp only [← EReal.coe_mul, ← EReal.coe_pow]; exact congrArg Real.toEReal (by norm_num))
theorem ofBits_8 : Ideal.ofBits .f32 0x41000000#32 = ((8 : ℝ) : EReal) := by
  simp [Ideal.ofBits, Ideal.ieee]; norm_num; simp only [← EReal.coe_mul, ← EReal.coe_pow]; exact congrArg Real.toEReal (by norm_num)
theorem ofBits_e : Ideal.ofBits .f32 0x3E000000#32 = ((1 / 8 : ℝ) : EReal) := by
  simp [Ideal.ofBits, Ideal.ieee]; norm_num; simp only [← EReal.coe_mul, ← EReal.coe_pow]; exact congrArg Real.toEReal (by norm_num)
theorem ofBits_7e : Ideal.ofBits .f32 0x3F600000#32 = ((7 * (1 / 8) : ℝ) : EReal) := by
  simp [Ideal.ofBits, Ideal.ieee]; norm_num; simp only [← EReal.coe_mul, ← EReal.coe_pow]; exact congrArg Real.toEReal (by norm_num)
theorem ofBits_be : Ideal.ofBits .bf16 0x3E00#16 = ((1 / 8 : ℝ) : EReal) := by
  simp [Ideal.ofBits, Ideal.ieee]; norm_num; simp only [← EReal.coe_mul, ← EReal.coe_pow]; exact congrArg Real.toEReal (by norm_num)

/-- The reference's words: a candidate's number, its reciprocal step, its step and its bound. -/
def rM (c : Fin 16) : BitVec 32 := IntOp.addi 1#32 (BitVec.ofNat 32 c.val)
def rInv (c : Fin 16) : EReal := FloatOps.sitofp (F := Ideal) .f32 (IntOp.shli .host 1#32 (IntOp.addi 3#32 (rM c)))
def rD (c : Fin 16) : EReal := FloatOps.hostDivf (F := Ideal) (φ := .f32) (FloatOps.ofBits .f32 0x3F800000#32) (rInv c)
def rB (c : Fin 16) : EReal :=
  FloatOps.hostDivf (F := Ideal) (φ := .f32) (FloatOps.ofBits .f32 0x3F800000#32)
    (FloatOps.sitofp (F := Ideal) .f32 (IntOp.shli .host 1#32 (rM c)))

/-- A rounded multiple clipped to the levels 0 to 7. -/
def rClip (x : EReal) : EReal :=
  FloatOps.minimumf (F := Ideal) (φ := .f32) (FloatOps.sitofp (F := Ideal) .f32 7#32)
    (FloatOps.maximumf (F := Ideal) (φ := .f32) (FloatOps.sitofp (F := Ideal) .f32 0#32)
      (FloatOps.hostUnary (F := Ideal) (φ := .f32) .roundeven x))

/-- The code of a probability, and the value it stands for. -/
def rCode (c : Fin 16) (p : EReal) : BitVec 32 :=
  FloatOps.fptosi (F := Ideal) (φ := .f32) 32
    (Scalar.select (FloatOps.cmpf (F := Ideal) (φ := .f32) .olt p (rB c)) (rClip (p * rInv c))
      (rClip (p * FloatOps.ofBits (F := Ideal) .f32 0x41000000#32) + FloatOps.ofBits (F := Ideal) .f32 0x41000000#32))
def quantR (c : Fin 16) (p : EReal) : EReal :=
  FloatOps.sitofp (F := Ideal) .bf16 (IntOp.andi (rCode c p) 7#32)
    * Scalar.select (IntOp.cmpi .sge (rCode c p) 8#32) (FloatOps.ofBits (F := Ideal) .bf16 0x3E00#16) (rD c)

theorem rInv_eq (c : Fin 16) : rInv c = ((2 ^ (c.val + 4) : ℝ) : EReal) := by
  have h : (IntOp.shli .host 1#32 (IntOp.addi 3#32 (rM c))).toInt = 2 ^ (c.val + 4) := by
    fin_cases c <;> rfl
  show (((IntOp.shli .host 1#32 (IntOp.addi 3#32 (rM c))).toInt : ℝ) : EReal) = _
  rw [h]; push_cast; rfl

theorem one_f32 : FloatOps.ofBits (F := Ideal) .f32 0x3F800000#32 = 1 := by
  show Ideal.ofBits .f32 0x3F800000#32 = 1
  simp [Ideal.ofBits, Ideal.ieee]
  rw [← EReal.coe_mul, ← EReal.coe_one]
  exact congrArg Real.toEReal (by norm_num)

theorem rD_eq (c : Fin 16) : rD c = ((1 / 2 ^ (c.val + 4) : ℝ) : EReal) := by
  unfold rD
  rw [one_f32, rInv_eq]
  show Ideal.div 1 _ = _
  rw [Ideal.div_coe (by positivity), one_mul]

theorem rB_eq (c : Fin 16) : rB c = ((1 / 2 ^ (c.val + 1) : ℝ) : EReal) := by
  have h : (IntOp.shli .host 1#32 (rM c)).toInt = 2 ^ (c.val + 1) := by
    fin_cases c <;> rfl
  unfold rB
  rw [one_f32]
  show Ideal.div 1 (((IntOp.shli .host 1#32 (rM c)).toInt : ℝ) : EReal) = _
  rw [h, Ideal.div_coe (by positivity), one_mul]
  push_cast; rfl

theorem round_nonneg {u : ℝ} (hu : 0 ≤ u) : 0 ≤ Ideal.roundHalfEven u := by
  have := Int.floor_nonneg.2 hu
  unfold Ideal.roundHalfEven
  dsimp only
  split_ifs <;> omega

/-- The level of a nonnegative multiple: rounded, at most 7. -/
def lev (u : ℝ) : ℕ := (min 7 (Ideal.roundHalfEven u)).toNat

theorem lev_le (u : ℝ) : lev u ≤ 7 := by unfold lev; omega

theorem lev_cast {u : ℝ} (hu : 0 ≤ u) : (lev u : ℝ) = min 7 (Ideal.roundHalfEven u : ℝ) := by
  have h : ((lev u : ℕ) : ℤ) = min 7 (Ideal.roundHalfEven u) := by
    have := round_nonneg hu; unfold lev; omega
  have h' : ((lev u : ℕ) : ℝ) = (((lev u : ℕ) : ℤ) : ℝ) := by push_cast; rfl
  rw [h', h]; push_cast; rfl

theorem levK {u t : ℝ} (hu : 0 ≤ u) (ht : 0 ≤ t) :
    min (Ideal.liftRound Ideal.roundHalfEven (u : EReal) * (t : EReal)) ((7 * t : ℝ) : EReal) = ((lev u * t : ℝ) : EReal) := by
  show min (((Ideal.roundHalfEven u : ℝ) : EReal) * (t : EReal)) _ = _
  rw [← EReal.coe_mul, ← EReal.coe_strictMono.monotone.map_min, lev_cast hu, min_comm, min_mul_of_nonneg _ _ ht]

theorem levR {u : ℝ} (hu : 0 ≤ u) : rClip (u : EReal) = ((lev u : ℝ) : EReal) := by
  show min (((7#32 : BitVec 32).toInt : ℝ) : EReal) (max (((0#32 : BitVec 32).toInt : ℝ) : EReal) ((Ideal.roundHalfEven u : ℝ) : EReal)) = _
  rw [← EReal.coe_strictMono.monotone.map_max, ← EReal.coe_strictMono.monotone.map_min, lev_cast hu]
  have h7 : ((7#32 : BitVec 32).toInt : ℝ) = 7 := by
    have : (7#32 : BitVec 32).toInt = 7 := rfl
    rw [this]; norm_num
  have h0 : ((0#32 : BitVec 32).toInt : ℝ) = 0 := by norm_num
  rw [h7, h0, max_eq_right (by exact_mod_cast round_nonneg hu)]

theorem code_nat (j : ℕ) (hj : j ≤ 15) : Ideal.fptosi 32 ((j : ℝ) : EReal) = BitVec.ofNat 32 j := by
  unfold Ideal.fptosi
  rw [Ideal.toIntClamped_coe, if_pos (Nat.cast_nonneg j), Int.floor_natCast]
  interval_cases j <;> rfl

theorem quant_eq (c : Fin 16) {r : ℝ} (hr : 0 ≤ r) :
    quantK (bB c) (bN c) (bT c) (bT7 c) (r : EReal) = quantR c (r : EReal) := by
  have hn : (0 : ℝ) ≤ 2 ^ (c.val + 4) := by positivity
  have hcode : rCode c (r : EReal) = if r < 1 / 2 ^ (c.val + 1) then BitVec.ofNat 32 (lev (r * 2 ^ (c.val + 4)))
      else BitVec.ofNat 32 (lev (r * 8) + 8) := by
    unfold rCode
    rw [rB_eq, rInv_eq]
    show Ideal.fptosi 32 (Scalar.select (BitVec.ofBool (decide ((r : EReal) < ((1 / 2 ^ (c.val + 1) : ℝ) : EReal)))) _
      (rClip ((r : EReal) * Ideal.ofBits .f32 0x41000000#32) + Ideal.ofBits .f32 0x41000000#32)) = _
    rw [ofBits_8, ← EReal.coe_mul, ← EReal.coe_mul, levR (mul_nonneg hr hn), levR (mul_nonneg hr (by norm_num))]
    by_cases h : r < 1 / 2 ^ (c.val + 1)
    · rw [if_pos h, decide_eq_true (EReal.coe_lt_coe_iff.2 h)]
      exact code_nat _ ((lev_le _).trans (by norm_num))
    · rw [if_neg h, decide_eq_false (fun h' => h (EReal.coe_lt_coe_iff.1 h'))]
      show Ideal.fptosi 32 (((lev (r * 8) : ℝ) : EReal) + ((8 : ℝ) : EReal)) = _
      rw [← EReal.coe_add, ← code_nat _ (by have := lev_le (r * 8); omega)]
      push_cast; rfl
  unfold quantK quantR
  rw [hcode, ofBits_bB, ofBits_bN, ofBits_bT, ofBits_bT7, ofBits_8, ofBits_e, ofBits_7e, rD_eq, ← EReal.coe_mul, ← EReal.coe_mul,
    levK (mul_nonneg hr hn) (by positivity), levK (mul_nonneg hr (by norm_num)) (by norm_num)]
  show _ = (((IntOp.andi _ 7#32).toInt : ℝ) : EReal) * Scalar.select _ (Ideal.ofBits .bf16 0x3E00#16) _
  rw [ofBits_be]
  by_cases h : r < 1 / 2 ^ (c.val + 1)
  · rw [if_pos (EReal.coe_lt_coe_iff.2 h), if_pos h]
    have hl := lev_le (r * 2 ^ (c.val + 4))
    generalize lev (r * 2 ^ (c.val + 4)) = j at hl
    have h1 : (IntOp.andi (BitVec.ofNat 32 j) 7#32).toInt = j := by interval_cases j <;> rfl
    have h2 : IntOp.cmpi .sge (BitVec.ofNat 32 j) 8#32 = 0#1 := by interval_cases j <;> rfl
    rw [h1, h2, EReal.coe_mul]; push_cast; rfl
  · rw [if_neg (fun h' => h (EReal.coe_lt_coe_iff.1 h')), if_neg h]
    have hl := lev_le (r * 8)
    generalize lev (r * 8) = j at hl
    have h1 : (IntOp.andi (BitVec.ofNat 32 (j + 8)) 7#32).toInt = j := by interval_cases j <;> rfl
    have h2 : IntOp.cmpi .sge (BitVec.ofNat 32 (j + 8)) 8#32 = 1#1 := by interval_cases j <;> rfl
    rw [h1, h2, EReal.coe_mul]; push_cast; rfl

end Cert.Value

end
-- ==== Proof.Value.Pieces.lean ====
/- The pieces the body's runs store are the tiles' rows and log-sum-exps, or zeros for a tile beyond the length. -/
module

public import proofs.«01_k».proof.Proof.Value.Tile

@[expose] public section

set_option maxRecDepth 16384

noncomputable section

namespace Cert.Value

open Cert.KernelIdeal Cert.KernelIdeal.Gen Cert.KernelIdeal.Body
open Idealize.ShloMosaic Idealize.ShloMosaic.TcCoe Idealize.ShloMosaic.Tactic Idealize.SL.Sem

variable {F : FTy → Type} [FloatOps F] [Named F]

set_option maxHeartbeats 4000000 in
theorem piecesA_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) :
    (runA c i arg3 harg3 arg4 harg4 arg5 harg5 arg6 harg6 arg7 harg7 arg8 harg8 arg9 harg9 arg10 harg10 x0 x1 x2 x3 x4 x5 xt0 hc1 hc2 hc3 hc4).1 =
      [⟨Rect.unit ![0, 0, 0, 256] ![1, 1, 16, 256] inb_S1x1x16x512_S1x1x16x256_0_0_0_256, tileRows (k0_pay13 (F := F) (word c i xt0)) (word c i xt0) (ld x3 (Rect.unit (s := S1x1x1x512) ![0, 0, 0, 0] S1x1x1x512.size inb_S1x1x1x512_S1x1x1x512_0_0_0_0)) (ld x1 (Rect.unit (s := S1x1x512x64) ![0, 0, 0, 0] S1x1x512x64.size inb_S1x1x512x64_S1x1x512x64_0_0_0_0)) (ld x0 (Rect.unit (s := S1x1x64x512) ![0, 0, 0, 256] S1x1x64x256.size inb_S1x1x64x512_S1x1x64x256_0_0_0_256)) (ld x2 (Rect.unit (s := S1x1x1x512) ![0, 0, 0, 256] S1x1x1x256.size inb_S1x1x1x512_S1x1x1x256_0_0_0_256)) (ld x4 (Rect.unit (s := S1x1x64x512) ![0, 0, 0, 0] S1x1x64x512.size inb_S1x1x64x512_S1x1x64x512_0_0_0_0)) (ld x5 (Rect.unit (s := S1x1x64x512) ![0, 0, 0, 256] S1x1x64x256.size inb_S1x1x64x512_S1x1x64x256_0_0_0_256))⟩,
       ⟨Rect.unit ![0, 0, 0, 0] ![1, 1, 16, 256] inb_S1x1x16x512_S1x1x16x256_0_0_0_0, tileRows (k0_pay6 (F := F) (word c i xt0)) (word c i xt0) (ld x3 (Rect.unit (s := S1x1x1x512) ![0, 0, 0, 0] S1x1x1x512.size inb_S1x1x1x512_S1x1x1x512_0_0_0_0)) (ld x1 (Rect.unit (s := S1x1x512x64) ![0, 0, 0, 0] S1x1x512x64.size inb_S1x1x512x64_S1x1x512x64_0_0_0_0)) (ld x0 (Rect.unit (s := S1x1x64x512) ![0, 0, 0, 0] S1x1x64x256.size inb_S1x1x64x512_S1x1x64x256_0_0_0_0)) (ld x2 (Rect.unit (s := S1x1x1x512) ![0, 0, 0, 0] S1x1x1x256.size inb_S1x1x1x512_S1x1x1x256_0_0_0_0)) (ld x4 (Rect.unit (s := S1x1x64x512) ![0, 0, 0, 0] S1x1x64x512.size inb_S1x1x64x512_S1x1x64x512_0_0_0_0)) (ld x5 (Rect.unit (s := S1x1x64x512) ![0, 0, 0, 0] S1x1x64x256.size inb_S1x1x64x512_S1x1x64x256_0_0_0_0))⟩] := by
  refine Eq.trans (b := [⟨Rect.unit ![0, 0, 0, 256] ![1, 1, 16, 256] inb_S1x1x16x512_S1x1x16x256_0_0_0_256, tileRows (k0_pay13 (F := F) (word c i xt0)) (word c i xt0) (View.readAt (Elt F) arg6.view (Rect.unit (s := S1x1x1x512) ![0, 0, 0, 0] S1x1x1x512.size inb_S1x1x1x512_S1x1x1x512_0_0_0_0).toLoadRect (harg6.unread x3)) (View.readAt (Elt F) arg4.view (Rect.unit (s := S1x1x512x64) ![0, 0, 0, 0] S1x1x512x64.size inb_S1x1x512x64_S1x1x512x64_0_0_0_0).toLoadRect (harg4.unread x1)) (View.readAt (Elt F) arg3.view (Rect.unit (s := S1x1x64x512) ![0, 0, 0, 256] S1x1x64x256.size inb_S1x1x64x512_S1x1x64x256_0_0_0_256).toLoadRect (harg3.unread x0)) (View.readAt (Elt F) arg5.view (Rect.unit (s := S1x1x1x512) ![0, 0, 0, 256] S1x1x1x256.size inb_S1x1x1x512_S1x1x1x256_0_0_0_256).toLoadRect (harg5.unread x2)) (View.readAt (Elt F) arg7.view (Rect.unit (s := S1x1x64x512) ![0, 0, 0, 0] S1x1x64x512.size inb_S1x1x64x512_S1x1x64x512_0_0_0_0).toLoadRect (harg7.unread x4)) (View.readAt (Elt F) arg8.view (Rect.unit (s := S1x1x64x512) ![0, 0, 0, 256] S1x1x64x256.size inb_S1x1x64x512_S1x1x64x256_0_0_0_256).toLoadRect (harg8.unread x5))⟩,
       ⟨Rect.unit ![0, 0, 0, 0] ![1, 1, 16, 256] inb_S1x1x16x512_S1x1x16x256_0_0_0_0, tileRows (k0_pay6 (F := F) (word c i xt0)) (word c i xt0) (View.readAt (Elt F) arg6.view (Rect.unit (s := S1x1x1x512) ![0, 0, 0, 0] S1x1x1x512.size inb_S1x1x1x512_S1x1x1x512_0_0_0_0).toLoadRect (harg6.unread x3)) (View.readAt (Elt F) arg4.view (Rect.unit (s := S1x1x512x64) ![0, 0, 0, 0] S1x1x512x64.size inb_S1x1x512x64_S1x1x512x64_0_0_0_0).toLoadRect (harg4.unread x1)) (View.readAt (Elt F) arg3.view (Rect.unit (s := S1x1x64x512) ![0, 0, 0, 0] S1x1x64x256.size inb_S1x1x64x512_S1x1x64x256_0_0_0_0).toLoadRect (harg3.unread x0)) (View.readAt (Elt F) arg5.view (Rect.unit (s := S1x1x1x512) ![0, 0, 0, 0] S1x1x1x256.size inb_S1x1x1x512_S1x1x1x256_0_0_0_0).toLoadRect (harg5.unread x2)) (View.readAt (Elt F) arg7.view (Rect.unit (s := S1x1x64x512) ![0, 0, 0, 0] S1x1x64x512.size inb_S1x1x64x512_S1x1x64x512_0_0_0_0).toLoadRect (harg7.unread x4)) (View.readAt (Elt F) arg8.view (Rect.unit (s := S1x1x64x512) ![0, 0, 0, 0] S1x1x64x256.size inb_S1x1x64x512_S1x1x64x256_0_0_0_0).toLoadRect (harg8.unread x5))⟩]) (by sl_kernel_rfl) ?_
  simp only [readAt_ld]

set_option maxHeartbeats 4000000 in
theorem piecesA_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) :
    (runA c i arg3 harg3 arg4 harg4 arg5 harg5 arg6 harg6 arg7 harg7 arg8 harg8 arg9 harg9 arg10 harg10 x0 x1 x2 x3 x4 x5 xt0 hc1 hc2 hc3 hc4).2.1 =
      [⟨Rect.unit ![0, 0, 0, 256] ![1, 1, 1, 256] inb_S1x1x1x512_S1x1x1x256_0_0_0_256, tileLse (k0_pay13 (F := F) (word c i xt0)) (word c i xt0) (ld x3 (Rect.unit (s := S1x1x1x512) ![0, 0, 0, 0] S1x1x1x512.size inb_S1x1x1x512_S1x1x1x512_0_0_0_0)) (ld x1 (Rect.unit (s := S1x1x512x64) ![0, 0, 0, 0] S1x1x512x64.size inb_S1x1x512x64_S1x1x512x64_0_0_0_0)) (ld x0 (Rect.unit (s := S1x1x64x512) ![0, 0, 0, 256] S1x1x64x256.size inb_S1x1x64x512_S1x1x64x256_0_0_0_256)) (ld x2 (Rect.unit (s := S1x1x1x512) ![0, 0, 0, 256] S1x1x1x256.size inb_S1x1x1x512_S1x1x1x256_0_0_0_256))⟩,
       ⟨Rect.unit ![0, 0, 0, 0] ![1, 1, 1, 256] inb_S1x1x1x512_S1x1x1x256_0_0_0_0, tileLse (k0_pay6 (F := F) (word c i xt0)) (word c i xt0) (ld x3 (Rect.unit (s := S1x1x1x512) ![0, 0, 0, 0] S1x1x1x512.size inb_S1x1x1x512_S1x1x1x512_0_0_0_0)) (ld x1 (Rect.unit (s := S1x1x512x64) ![0, 0, 0, 0] S1x1x512x64.size inb_S1x1x512x64_S1x1x512x64_0_0_0_0)) (ld x0 (Rect.unit (s := S1x1x64x512) ![0, 0, 0, 0] S1x1x64x256.size inb_S1x1x64x512_S1x1x64x256_0_0_0_0)) (ld x2 (Rect.unit (s := S1x1x1x512) ![0, 0, 0, 0] S1x1x1x256.size inb_S1x1x1x512_S1x1x1x256_0_0_0_0))⟩] := by
  refine Eq.trans (b := [⟨Rect.unit ![0, 0, 0, 256] ![1, 1, 1, 256] inb_S1x1x1x512_S1x1x1x256_0_0_0_256, tileLse (k0_pay13 (F := F) (word c i xt0)) (word c i xt0) (View.readAt (Elt F) arg6.view (Rect.unit (s := S1x1x1x512) ![0, 0, 0, 0] S1x1x1x512.size inb_S1x1x1x512_S1x1x1x512_0_0_0_0).toLoadRect (harg6.unread x3)) (View.readAt (Elt F) arg4.view (Rect.unit (s := S1x1x512x64) ![0, 0, 0, 0] S1x1x512x64.size inb_S1x1x512x64_S1x1x512x64_0_0_0_0).toLoadRect (harg4.unread x1)) (View.readAt (Elt F) arg3.view (Rect.unit (s := S1x1x64x512) ![0, 0, 0, 256] S1x1x64x256.size inb_S1x1x64x512_S1x1x64x256_0_0_0_256).toLoadRect (harg3.unread x0)) (View.readAt (Elt F) arg5.view (Rect.unit (s := S1x1x1x512) ![0, 0, 0, 256] S1x1x1x256.size inb_S1x1x1x512_S1x1x1x256_0_0_0_256).toLoadRect (harg5.unread x2))⟩,
       ⟨Rect.unit ![0, 0, 0, 0] ![1, 1, 1, 256] inb_S1x1x1x512_S1x1x1x256_0_0_0_0, tileLse (k0_pay6 (F := F) (word c i xt0)) (word c i xt0) (View.readAt (Elt F) arg6.view (Rect.unit (s := S1x1x1x512) ![0, 0, 0, 0] S1x1x1x512.size inb_S1x1x1x512_S1x1x1x512_0_0_0_0).toLoadRect (harg6.unread x3)) (View.readAt (Elt F) arg4.view (Rect.unit (s := S1x1x512x64) ![0, 0, 0, 0] S1x1x512x64.size inb_S1x1x512x64_S1x1x512x64_0_0_0_0).toLoadRect (harg4.unread x1)) (View.readAt (Elt F) arg3.view (Rect.unit (s := S1x1x64x512) ![0, 0, 0, 0] S1x1x64x256.size inb_S1x1x64x512_S1x1x64x256_0_0_0_0).toLoadRect (harg3.unread x0)) (View.readAt (Elt F) arg5.view (Rect.unit (s := S1x1x1x512) ![0, 0, 0, 0] S1x1x1x256.size inb_S1x1x1x512_S1x1x1x256_0_0_0_0).toLoadRect (harg5.unread x2))⟩]) (by sl_kernel_rfl) ?_
  simp only [readAt_ld]

set_option maxHeartbeats 4000000 in
theorem piecesB_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) :
    (runB c i arg3 harg3 arg4 harg4 arg5 harg5 arg6 harg6 arg7 harg7 arg8 harg8 arg9 harg9 arg10 harg10 x0 x1 x2 x3 x4 x5 xt0 hc1 hc2 hc3 hc4).1 =
      [⟨Rect.unit ![0, 0, 0, 256] ![1, 1, 16, 256] inb_S1x1x16x512_S1x1x16x256_0_0_0_256, k0_pay16⟩,
       ⟨Rect.unit ![0, 0, 0, 0] ![1, 1, 16, 256] inb_S1x1x16x512_S1x1x16x256_0_0_0_0, tileRows (k0_pay6 (F := F) (word c i xt0)) (word c i xt0) (ld x3 (Rect.unit (s := S1x1x1x512) ![0, 0, 0, 0] S1x1x1x512.size inb_S1x1x1x512_S1x1x1x512_0_0_0_0)) (ld x1 (Rect.unit (s := S1x1x512x64) ![0, 0, 0, 0] S1x1x512x64.size inb_S1x1x512x64_S1x1x512x64_0_0_0_0)) (ld x0 (Rect.unit (s := S1x1x64x512) ![0, 0, 0, 0] S1x1x64x256.size inb_S1x1x64x512_S1x1x64x256_0_0_0_0)) (ld x2 (Rect.unit (s := S1x1x1x512) ![0, 0, 0, 0] S1x1x1x256.size inb_S1x1x1x512_S1x1x1x256_0_0_0_0)) (ld x4 (Rect.unit (s := S1x1x64x512) ![0, 0, 0, 0] S1x1x64x512.size inb_S1x1x64x512_S1x1x64x512_0_0_0_0)) (ld x5 (Rect.unit (s := S1x1x64x512) ![0, 0, 0, 0] S1x1x64x256.size inb_S1x1x64x512_S1x1x64x256_0_0_0_0))⟩] := by
  refine Eq.trans (b := [⟨Rect.unit ![0, 0, 0, 256] ![1, 1, 16, 256] inb_S1x1x16x512_S1x1x16x256_0_0_0_256, k0_pay16⟩,
       ⟨Rect.unit ![0, 0, 0, 0] ![1, 1, 16, 256] inb_S1x1x16x512_S1x1x16x256_0_0_0_0, tileRows (k0_pay6 (F := F) (word c i xt0)) (word c i xt0) (View.readAt (Elt F) arg6.view (Rect.unit (s := S1x1x1x512) ![0, 0, 0, 0] S1x1x1x512.size inb_S1x1x1x512_S1x1x1x512_0_0_0_0).toLoadRect (harg6.unread x3)) (View.readAt (Elt F) arg4.view (Rect.unit (s := S1x1x512x64) ![0, 0, 0, 0] S1x1x512x64.size inb_S1x1x512x64_S1x1x512x64_0_0_0_0).toLoadRect (harg4.unread x1)) (View.readAt (Elt F) arg3.view (Rect.unit (s := S1x1x64x512) ![0, 0, 0, 0] S1x1x64x256.size inb_S1x1x64x512_S1x1x64x256_0_0_0_0).toLoadRect (harg3.unread x0)) (View.readAt (Elt F) arg5.view (Rect.unit (s := S1x1x1x512) ![0, 0, 0, 0] S1x1x1x256.size inb_S1x1x1x512_S1x1x1x256_0_0_0_0).toLoadRect (harg5.unread x2)) (View.readAt (Elt F) arg7.view (Rect.unit (s := S1x1x64x512) ![0, 0, 0, 0] S1x1x64x512.size inb_S1x1x64x512_S1x1x64x512_0_0_0_0).toLoadRect (harg7.unread x4)) (View.readAt (Elt F) arg8.view (Rect.unit (s := S1x1x64x512) ![0, 0, 0, 0] S1x1x64x256.size inb_S1x1x64x512_S1x1x64x256_0_0_0_0).toLoadRect (harg8.unread x5))⟩]) (by sl_kernel_rfl) ?_
  simp only [readAt_ld]

set_option maxHeartbeats 4000000 in
theorem piecesB_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) :
    (runB c i arg3 harg3 arg4 harg4 arg5 harg5 arg6 harg6 arg7 harg7 arg8 harg8 arg9 harg9 arg10 harg10 x0 x1 x2 x3 x4 x5 xt0 hc1 hc2 hc3 hc4).2.1 =
      [⟨Rect.unit ![0, 0, 0, 256] ![1, 1, 1, 256] inb_S1x1x1x512_S1x1x1x256_0_0_0_256, k0_pay17⟩,
       ⟨Rect.unit ![0, 0, 0, 0] ![1, 1, 1, 256] inb_S1x1x1x512_S1x1x1x256_0_0_0_0, tileLse (k0_pay6 (F := F) (word c i xt0)) (word c i xt0) (ld x3 (Rect.unit (s := S1x1x1x512) ![0, 0, 0, 0] S1x1x1x512.size inb_S1x1x1x512_S1x1x1x512_0_0_0_0)) (ld x1 (Rect.unit (s := S1x1x512x64) ![0, 0, 0, 0] S1x1x512x64.size inb_S1x1x512x64_S1x1x512x64_0_0_0_0)) (ld x0 (Rect.unit (s := S1x1x64x512) ![0, 0, 0, 0] S1x1x64x256.size inb_S1x1x64x512_S1x1x64x256_0_0_0_0)) (ld x2 (Rect.unit (s := S1x1x1x512) ![0, 0, 0, 0] S1x1x1x256.size inb_S1x1x1x512_S1x1x1x256_0_0_0_0))⟩] := by
  refine Eq.trans (b := [⟨Rect.unit ![0, 0, 0, 256] ![1, 1, 1, 256] inb_S1x1x1x512_S1x1x1x256_0_0_0_256, k0_pay17⟩,
       ⟨Rect.unit ![0, 0, 0, 0] ![1, 1, 1, 256] inb_S1x1x1x512_S1x1x1x256_0_0_0_0, tileLse (k0_pay6 (F := F) (word c i xt0)) (word c i xt0) (View.readAt (Elt F) arg6.view (Rect.unit (s := S1x1x1x512) ![0, 0, 0, 0] S1x1x1x512.size inb_S1x1x1x512_S1x1x1x512_0_0_0_0).toLoadRect (harg6.unread x3)) (View.readAt (Elt F) arg4.view (Rect.unit (s := S1x1x512x64) ![0, 0, 0, 0] S1x1x512x64.size inb_S1x1x512x64_S1x1x512x64_0_0_0_0).toLoadRect (harg4.unread x1)) (View.readAt (Elt F) arg3.view (Rect.unit (s := S1x1x64x512) ![0, 0, 0, 0] S1x1x64x256.size inb_S1x1x64x512_S1x1x64x256_0_0_0_0).toLoadRect (harg3.unread x0)) (View.readAt (Elt F) arg5.view (Rect.unit (s := S1x1x1x512) ![0, 0, 0, 0] S1x1x1x256.size inb_S1x1x1x512_S1x1x1x256_0_0_0_0).toLoadRect (harg5.unread x2))⟩]) (by sl_kernel_rfl) ?_
  simp only [readAt_ld]

set_option maxHeartbeats 4000000 in
theorem piecesC_6 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) :
    (runC c i arg3 harg3 arg4 harg4 arg5 harg5 arg6 harg6 arg7 harg7 arg8 harg8 arg9 harg9 arg10 harg10 x0 x1 x2 x3 x4 x5 xt0 hc1 hc2 hc3 hc4).1 =
      [⟨Rect.unit ![0, 0, 0, 256] ![1, 1, 16, 256] inb_S1x1x16x512_S1x1x16x256_0_0_0_256, k0_pay16⟩,
       ⟨Rect.unit ![0, 0, 0, 0] ![1, 1, 16, 256] inb_S1x1x16x512_S1x1x16x256_0_0_0_0, k0_pay9⟩] := by
  sl_kernel_rfl

set_option maxHeartbeats 4000000 in
theorem piecesC_7 (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec F S1x1x64x512 .fp8e4m3) (x1 : Vec F S1x1x512x64 .fp8e4m3) (x2 : Vec F S1x1x1x512 .f32) (x3 : Vec F S1x1x1x512 .f32) (x4 : Vec F S1x1x64x512 .bf16) (x5 : Vec F S1x1x64x512 .bf16) (xt0 : TbBuf0 (F := F) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) :
    (runC c i arg3 harg3 arg4 harg4 arg5 harg5 arg6 harg6 arg7 harg7 arg8 harg8 arg9 harg9 arg10 harg10 x0 x1 x2 x3 x4 x5 xt0 hc1 hc2 hc3 hc4).2.1 =
      [⟨Rect.unit ![0, 0, 0, 256] ![1, 1, 1, 256] inb_S1x1x1x512_S1x1x1x256_0_0_0_256, k0_pay17⟩,
       ⟨Rect.unit ![0, 0, 0, 0] ![1, 1, 1, 256] inb_S1x1x1x512_S1x1x1x256_0_0_0_0, k0_pay10⟩] := by
  sl_kernel_rfl

end Cert.Value

end
-- ==== Proof.Value.Block.lean ====
/- The two blocks a grid point leaves, over the extended reals: one formula over all 512 queries, whichever of the three
   runs the point takes. -/
module

public import proofs.«01_k».proof.Proof.Value.Quant
public import proofs.«01_k».proof.Proof.Value.Pieces
public import Idealize.ShloMosaic.Lib.Pointwise

@[expose] public section

set_option maxRecDepth 16384

noncomputable section

namespace Cert.Value

open Cert.KernelIdeal Cert.KernelIdeal.Gen Cert.KernelIdeal.Body
open Idealize.ShloMosaic Idealize.ShloMosaic.TcCoe Idealize.ShloMosaic.Tactic Idealize.SL.Sem

/-- The natural scores of one query: its features `q` against each key's, scaled; `⊥` at keys beyond the length. -/
def score (w : BitVec 32) (qf : Fin 64 → EReal) (kf : Fin 512 → Fin 64 → EReal) (qs : EReal) (ks : Fin 512 → EReal)
    (kk : Fin 512) : EReal :=
  if IntOp.cmpi .slt (BitVec.ofNat 32 kk.val) w = 1#1 then
    ((∑ d : Fin 64, kf kk d * qf d) * qs * ks kk) * ((1 / 8 : ℝ) : EReal)
  else ⊥

/-- A row's entry at candidate `c`, zero for a query beyond the length. -/
def gRow (w : BitVec 32) (Q : Fin 512) (c : Fin 16) (S : Fin 512 → EReal) (V : Fin 64 → Fin 512 → EReal) (G : Fin 64 → EReal) :
    EReal :=
  Scalar.select (IntOp.cmpi .slt (BitVec.ofNat 32 Q.val) w) (tRow (bB c) (bN c) (bT c) (bT7 c) (prob S) V G) 0

/-- A query's centered log-sum-exp, zero for a query beyond the length. -/
def gLse (w : BitVec 32) (Q : Fin 512) (S : Fin 512 → EReal) : EReal :=
  Scalar.select (IntOp.cmpi .slt (BitVec.ofNat 32 Q.val) w) (lse S - Ideal.log (FloatOps.sitofp (F := Ideal) .f32 w)) 0

variable (x0 : Vec Ideal S1x1x64x512 .fp8e4m3) (x1 : Vec Ideal S1x1x512x64 .fp8e4m3) (x2 : Vec Ideal S1x1x1x512 .f32)
  (x3 : Vec Ideal S1x1x1x512 .f32) (x4 : Vec Ideal S1x1x64x512 .bf16) (x5 : Vec Ideal S1x1x64x512 .bf16)

/-- The scores of query `Q` of a block. -/
def bScore (w : BitVec 32) (Q : Fin 512) : Fin 512 → EReal :=
  score w (fun d => x0 (ix4 0 0 d Q)) (fun kk d => x1 (ix4 0 0 kk d)) (x2 (ix4 0 0 0 Q)) (fun kk => x3 (ix4 0 0 0 kk))

/-- The row-loss block and the log-sum-exp block of a grid point. -/
def G6 (w : BitVec 32) : Vec Ideal S1x1x16x512 .f32 := fun y =>
  gRow w (y 3) (y 2) (bScore x0 x1 x2 x3 w (y 3)) (fun d kk => x4 (ix4 0 0 d kk)) (fun d => x5 (ix4 0 0 d (y 3)))
def G7 (w : BitVec 32) : Vec Ideal S1x1x1x512 .f32 := fun y => gLse w (y 3) (bScore x0 x1 x2 x3 w (y 3))

theorem tileRows_apply (ok : IVec S1x256 1) (w : BitVec 32) (ks : Vec Ideal S1x1x1x512 .f32) (k : Vec Ideal S1x1x512x64 .fp8e4m3)
    (q : Vec Ideal S1x1x64x256 .fp8e4m3) (qs : Vec Ideal S1x1x1x256 .f32) (v : Vec Ideal S1x1x64x512 .bf16)
    (g : Vec Ideal S1x1x64x256 .bf16) (c : Fin 16) (j : Fin 256) :
    tileRows (F := Ideal) ok w ks k q qs v g (ix4 0 0 c j)
      = Scalar.select (ok (ix2 0 j)) (tRow (bB c) (bN c) (bT c) (bT7 c) (prob (tScore w ks k q qs j))
          (fun d kk => v (ix4 0 0 d kk)) (fun d => g (ix4 0 0 d j))) 0 := by
  have hc : Shape.Concatenates ((List.ofFn fun n : Fin 16 =>
      (⟨S1x256, tileRow (F := Ideal) w ks k q qs v g (bB n) (bN n) (bT n) (bT7 n)⟩ : (s : Shape) × (s.Idx → EReal))).map (·.1))
      S16x256 0 := concatenates_S1x256_S1x256_S1x256_S1x256_S1x256_S1x256_S1x256_S1x256_S1x256_S1x256_S1x256_S1x256_S1x256_S1x256_S1x256_S1x256_S16x256_d0
  have h : tileRows (F := Ideal) ok w ks k q qs v g = k0_pay7 (concatenate S16x256 0 (List.ofFn fun n : Fin 16 =>
      (⟨S1x256, tileRow (F := Ideal) w ks k q qs v g (bB n) (bN n) (bT n) (bT7 n)⟩ : (s : Shape) × (s.Idx → EReal)))
      hc) ok := by
    sl_kernel_rfl
  rw [h, ← row_apply]
  simp only [k0_pay7, pointwise]
  rfl

/-- A load of the whole block, and of a tile's 256 columns. -/
theorem ld_whole {s : Shape} {e : EltTy} (x : Vec Ideal s e) (off : Fin s.rank → ℕ) (h0 : off = fun _ => 0) (inb) :
    ld x (Rect.unit (s := s) off s.size inb) = x := by
  subst h0
  funext j
  exact congrArg x (funext fun a => Fin.ext (by show 0 + 1 * (j a).val = (j a).val; omega))

theorem ok6 (w : BitVec 32) (j : Fin 256) (Q : Fin 512) (h : Q.val = j.val) :
    k0_pay6 (F := Ideal) w (ix2 0 j) = IntOp.cmpi .slt (BitVec.ofNat 32 Q.val) w := by
  show IntOp.cmpi .slt (IntOp.addi (iota .tc S1x256 32 [1] iota_S1x256_d1_w32 (ix2 0 j)) 0#32) w = _
  rw [iota_single_apply, h]
  exact congrArg (IntOp.cmpi .slt · w) (BitVec.add_zero _)

theorem ok13 (w : BitVec 32) (j : Fin 256) (Q : Fin 512) (h : Q.val = 256 + j.val) :
    k0_pay13 (F := Ideal) w (ix2 0 j) = IntOp.cmpi .slt (BitVec.ofNat 32 Q.val) w := by
  show IntOp.cmpi .slt (IntOp.addi (iota .tc S1x256 32 [1] iota_S1x256_d1_w32 (ix2 0 j)) 256#32) w = _
  rw [iota_single_apply, h, Nat.add_comm]
  exact congrArg (IntOp.cmpi .slt · w) (BitVec.ofNat_add _ _).symm

theorem slt_zero (w : BitVec 32) (n : ℕ) (Q : Fin 512) (hn : n ≤ Q.val) (hw : ¬ (n : ℤ) < w.toInt) :
    IntOp.cmpi .slt (BitVec.ofNat 32 Q.val) w = 0#1 := by
  have h : (BitVec.ofNat 32 Q.val).toInt = Q.val := by
    rw [BitVec.toInt_eq_toNat_of_lt (by rw [BitVec.toNat_ofNat]; omega), BitVec.toNat_ofNat, Nat.mod_eq_of_lt (by omega)]
  show BitVec.ofBool (decide ((BitVec.ofNat 32 Q.val).toInt < w.toInt)) = _
  rw [h, decide_eq_false (by omega)]; rfl

theorem unit_emb (n o : ℕ) (inb : ∀ a, (![0, 0, 0, o] : Fin 4 → ℕ) a + (![1, 1, n, 256] : Fin 4 → ℕ) a ≤ (⟨4, ![1, 1, n, 512]⟩ : Shape).size a)
    (d : Fin n) (j : Fin 256) (Q : Fin 512) (hQ : Q.val = o + j.val) :
    (Rect.unit (s := ⟨4, ![1, 1, n, 512]⟩) ![0, 0, 0, o] ![1, 1, n, 256] inb).idx (ix4 (0 : Fin 1) (0 : Fin 1) d j)
      = ix4 (0 : Fin 1) (0 : Fin 1) d Q := by
  funext a
  refine Fin.ext ?_
  match a with
  | 0 => rfl
  | 1 => rfl
  | 2 => show 0 + 1 * d.val = d.val; omega
  | 3 => show o + 1 * j.val = Q.val; omega

theorem zeros4 : (![0, 0, 0, 0] : Fin 4 → ℕ) = fun _ => 0 := by
  funext a; match a with
  | 0 => rfl
  | 1 => rfl
  | 2 => rfl
  | 3 => rfl

theorem tScore_ld (w : BitVec 32) (o : ℕ) (i0 i2) (j : Fin 256) (Q : Fin 512) (hQ : Q.val = o + j.val) :
    tScore w x3 x1 (ld x0 (Rect.unit (s := S1x1x64x512) ![0, 0, 0, o] S1x1x64x256.size i0))
      (ld x2 (Rect.unit (s := S1x1x1x512) ![0, 0, 0, o] S1x1x1x256.size i2)) j = bScore x0 x1 x2 x3 w Q := by
  funext kk
  unfold tScore bScore score
  have h2 : ld x2 (Rect.unit (s := S1x1x1x512) ![0, 0, 0, o] S1x1x1x256.size i2) (ix4 0 0 0 j) = x2 (ix4 0 0 0 Q) :=
    congrArg x2 (unit_emb 1 o i2 0 j Q hQ)
  have h0 : ∀ d, ld x0 (Rect.unit (s := S1x1x64x512) ![0, 0, 0, o] S1x1x64x256.size i0) (ix4 0 0 d j) = x0 (ix4 0 0 d Q) :=
    fun d => congrArg x0 (unit_emb 64 o i0 d j Q hQ)
  simp only [h2, h0]

theorem piece6 (w : BitVec 32) (o : ℕ) (ho : o + 256 ≤ 512) (ok : IVec S1x256 1)
    (hok : ∀ (j : Fin 256) (Q : Fin 512), Q.val = o + j.val → ok (ix2 0 j) = IntOp.cmpi .slt (BitVec.ofNat 32 Q.val) w)
    (i0 i1 i2 i3 i4 i5 i6) (x : S1x1x16x256.Idx) :
    tileRows (F := Ideal) ok w (ld x3 (Rect.unit (s := S1x1x1x512) ![0, 0, 0, 0] S1x1x1x512.size i3))
      (ld x1 (Rect.unit (s := S1x1x512x64) ![0, 0, 0, 0] S1x1x512x64.size i1))
      (ld x0 (Rect.unit (s := S1x1x64x512) ![0, 0, 0, o] S1x1x64x256.size i0))
      (ld x2 (Rect.unit (s := S1x1x1x512) ![0, 0, 0, o] S1x1x1x256.size i2))
      (ld x4 (Rect.unit (s := S1x1x64x512) ![0, 0, 0, 0] S1x1x64x512.size i4))
      (ld x5 (Rect.unit (s := S1x1x64x512) ![0, 0, 0, o] S1x1x64x256.size i5)) x
      = G6 x0 x1 x2 x3 x4 x5 w ((Rect.unit (s := S1x1x16x512) ![0, 0, 0, o] ![1, 1, 16, 256] i6).emb x) := by
  obtain ⟨a, b, c, j, rfl⟩ : ∃ (a b : Fin 1) (c : Fin 16) (j : Fin 256), x = ix4 a b c j := ⟨_, _, _, _, eq_ix4 x⟩
  obtain rfl : a = 0 := Subsingleton.elim _ _
  obtain rfl : b = 0 := Subsingleton.elim _ _
  have hQ : (⟨o + j.val, by omega⟩ : Fin 512).val = o + j.val := rfl
  generalize (⟨o + j.val, by omega⟩ : Fin 512) = Q at hQ
  have he : (Rect.unit (s := S1x1x16x512) ![0, 0, 0, o] ![1, 1, 16, 256] i6).emb (ix4 0 0 c j) = ix4 0 0 c Q :=
    unit_emb 16 o i6 c j Q hQ
  have h5 : ∀ d, ld x5 (Rect.unit (s := S1x1x64x512) ![0, 0, 0, o] S1x1x64x256.size i5) (ix4 0 0 d j) = x5 (ix4 0 0 d Q) :=
    fun d => congrArg x5 (unit_emb 64 o i5 d j Q hQ)
  rw [he, ld_whole x3 _ zeros4, ld_whole x1 _ zeros4, ld_whole x4 _ zeros4, tileRows_apply, hok j Q hQ, tScore_ld x0 x1 x2 x3 w o i0 i2 j Q hQ]
  simp only [h5]
  rfl

theorem piece7 (w : BitVec 32) (o : ℕ) (ho : o + 256 ≤ 512) (ok : IVec S1x256 1)
    (hok : ∀ (j : Fin 256) (Q : Fin 512), Q.val = o + j.val → ok (ix2 0 j) = IntOp.cmpi .slt (BitVec.ofNat 32 Q.val) w)
    (i0 i1 i2 i3 i7) (x : S1x1x1x256.Idx) :
    tileLse (F := Ideal) ok w (ld x3 (Rect.unit (s := S1x1x1x512) ![0, 0, 0, 0] S1x1x1x512.size i3))
      (ld x1 (Rect.unit (s := S1x1x512x64) ![0, 0, 0, 0] S1x1x512x64.size i1))
      (ld x0 (Rect.unit (s := S1x1x64x512) ![0, 0, 0, o] S1x1x64x256.size i0))
      (ld x2 (Rect.unit (s := S1x1x1x512) ![0, 0, 0, o] S1x1x1x256.size i2)) x
      = G7 x0 x1 x2 x3 w ((Rect.unit (s := S1x1x1x512) ![0, 0, 0, o] ![1, 1, 1, 256] i7).emb x) := by
  obtain ⟨a, b, c, j, rfl⟩ : ∃ (a b c : Fin 1) (j : Fin 256), x = ix4 a b c j := ⟨_, _, _, _, eq_ix4 x⟩
  obtain rfl : a = 0 := Subsingleton.elim _ _
  obtain rfl : b = 0 := Subsingleton.elim _ _
  obtain rfl : c = 0 := Subsingleton.elim _ _
  have hQ : (⟨o + j.val, by omega⟩ : Fin 512).val = o + j.val := rfl
  generalize (⟨o + j.val, by omega⟩ : Fin 512) = Q at hQ
  have he : (Rect.unit (s := S1x1x1x512) ![0, 0, 0, o] ![1, 1, 1, 256] i7).emb (ix4 0 0 0 j) = ix4 0 0 0 Q :=
    unit_emb 1 o i7 0 j Q hQ
  rw [he, ld_whole x3 _ zeros4, ld_whole x1 _ zeros4, lse_apply, hok j Q hQ, tScore_ld x0 x1 x2 x3 w o i0 i2 j Q hQ]
  rfl

/-- A tile of zeros, where every query of the tile lies beyond the length. -/
theorem zero6 (w : BitVec 32) (o : ℕ) (ho : o + 256 ≤ 512) (hw : ¬ (o : ℤ) < w.toInt) (i6) (x : S1x1x16x256.Idx) :
    (0 : EReal) = G6 x0 x1 x2 x3 x4 x5 w ((Rect.unit (s := S1x1x16x512) ![0, 0, 0, o] ![1, 1, 16, 256] i6).emb x) := by
  have hx : ∀ y : S1x1x16x512.Idx, o ≤ (y 3).val → G6 x0 x1 x2 x3 x4 x5 w y = 0 := fun y hy => by
    obtain ⟨a, b, c, Q, rfl⟩ : ∃ (a b : Fin 1) (c : Fin 16) (Q : Fin 512), y = ix4 a b c Q := ⟨_, _, _, _, eq_ix4 y⟩
    show Scalar.select (IntOp.cmpi .slt (BitVec.ofNat 32 Q.val) w) _ 0 = 0
    rw [slt_zero w o Q hy hw]; rfl
  exact (hx _ (Nat.le_add_right _ _)).symm

theorem zero7 (w : BitVec 32) (o : ℕ) (ho : o + 256 ≤ 512) (hw : ¬ (o : ℤ) < w.toInt) (i7) (x : S1x1x1x256.Idx) :
    (0 : EReal) = G7 x0 x1 x2 x3 w ((Rect.unit (s := S1x1x1x512) ![0, 0, 0, o] ![1, 1, 1, 256] i7).emb x) := by
  have hx : ∀ y : S1x1x1x512.Idx, o ≤ (y 3).val → G7 x0 x1 x2 x3 w y = 0 := fun y hy => by
    obtain ⟨a, b, c, Q, rfl⟩ : ∃ (a b : Fin 1) (c : Fin 1) (Q : Fin 512), y = ix4 a b c Q := ⟨_, _, _, _, eq_ix4 y⟩
    show Scalar.select (IntOp.cmpi .slt (BitVec.ofNat 32 Q.val) w) _ 0 = 0
    rw [slt_zero w o Q hy hw]; rfl
  exact (hx _ (Nat.le_add_right _ _)).symm

theorem pay16_apply (x : S1x1x16x256.Idx) : k0_pay16 (F := Ideal) x = 0 := by
  rw [eq_ix4 x]; simp only [k0_pay16, pointwise]
theorem pay17_apply (x : S1x1x1x256.Idx) : k0_pay17 (F := Ideal) x = 0 := by
  rw [eq_ix4 x]; simp only [k0_pay17, pointwise]
theorem pay9_apply (x : S1x1x16x256.Idx) : k0_pay9 (F := Ideal) x = 0 := by
  rw [eq_ix4 x]; simp only [k0_pay9, pointwise]
theorem pay10_apply (x : S1x1x1x256.Idx) : k0_pay10 (F := Ideal) x = 0 := by
  rw [eq_ix4 x]; simp only [k0_pay10, pointwise]

end Cert.Value

end
-- ==== Proof.Value.Out.lean ====
/- What each of the three runs leaves in the two output blocks is the one formula over all 512 queries. -/
module

public import proofs.«01_k».proof.Proof.Value.Block

@[expose] public section

set_option maxRecDepth 16384

noncomputable section

namespace Cert.Value

open Cert.KernelIdeal Cert.KernelIdeal.Gen Cert.KernelIdeal.Body
open Idealize.ShloMosaic Idealize.ShloMosaic.TcCoe Idealize.ShloMosaic.Tactic Idealize.SL.Sem

theorem outA_6_eq (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec Ideal S1x1x64x512 .fp8e4m3) (x1 : Vec Ideal S1x1x512x64 .fp8e4m3) (x2 : Vec Ideal S1x1x1x512 .f32) (x3 : Vec Ideal S1x1x1x512 .f32) (x4 : Vec Ideal S1x1x64x512 .bf16) (x5 : Vec Ideal S1x1x64x512 .bf16) (xt0 : TbBuf0 (F := Ideal) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) :
    outA_6 (F := Ideal) c i arg3 harg3 arg4 harg4 arg5 harg5 arg6 harg6 arg7 harg7 arg8 harg8 arg9 harg9 arg10 harg10 x0 x1 x2 x3 x4 x5 xt0 hc1 hc2 hc3 hc4 = G6 x0 x1 x2 x3 x4 x5 (word c i xt0) := by
  funext y
  refine View.read_writes_apply_of_pieces VO0_6 VO0_6.junk (G6 x0 x1 x2 x3 x4 x5 (word c i xt0)) _ ?_ y (coverA_6 (F := Ideal) c i arg3 harg3 arg4 harg4 arg5 harg5 arg6 harg6 arg7 harg7 arg8 harg8 arg9 harg9 arg10 harg10 x0 x1 x2 x3 x4 x5 xt0 hc1 hc2 hc3 hc4 y)
  rw [piecesA_6 (F := Ideal) c i arg3 harg3 arg4 harg4 arg5 harg5 arg6 harg6 arg7 harg7 arg8 harg8 arg9 harg9 arg10 harg10 x0 x1 x2 x3 x4 x5 xt0 hc1 hc2 hc3 hc4]
  intro p hp x
  rcases List.mem_cons.1 hp with rfl | hp
  · exact piece6 x0 x1 x2 x3 x4 x5 _ 256 (by norm_num) _ (fun j Q hQ => ok13 _ j Q hQ) _ _ _ _ _ _ inb_S1x1x16x512_S1x1x16x256_0_0_0_256 x
  · obtain rfl := List.mem_singleton.1 hp
    exact piece6 x0 x1 x2 x3 x4 x5 _ 0 (by norm_num) _ (fun j Q hQ => ok6 _ j Q (by omega)) _ _ _ _ _ _ inb_S1x1x16x512_S1x1x16x256_0_0_0_0 x

theorem outA_7_eq (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec Ideal S1x1x64x512 .fp8e4m3) (x1 : Vec Ideal S1x1x512x64 .fp8e4m3) (x2 : Vec Ideal S1x1x1x512 .f32) (x3 : Vec Ideal S1x1x1x512 .f32) (x4 : Vec Ideal S1x1x64x512 .bf16) (x5 : Vec Ideal S1x1x64x512 .bf16) (xt0 : TbBuf0 (F := Ideal) c tbM0_0)
    (hc1 : k0_cond1 (word c i xt0) = 1#1) (hc2 : ¬ k0_cond2 (word c i xt0) = 1#1) (hc3 : k0_cond3 (word c i xt0) = 1#1) (hc4 : ¬ k0_cond4 (word c i xt0) = 1#1) :
    outA_7 (F := Ideal) c i arg3 harg3 arg4 harg4 arg5 harg5 arg6 harg6 arg7 harg7 arg8 harg8 arg9 harg9 arg10 harg10 x0 x1 x2 x3 x4 x5 xt0 hc1 hc2 hc3 hc4 = G7 x0 x1 x2 x3 (word c i xt0) := by
  funext y
  refine View.read_writes_apply_of_pieces VO0_7 VO0_7.junk (G7 x0 x1 x2 x3 (word c i xt0)) _ ?_ y (coverA_7 (F := Ideal) c i arg3 harg3 arg4 harg4 arg5 harg5 arg6 harg6 arg7 harg7 arg8 harg8 arg9 harg9 arg10 harg10 x0 x1 x2 x3 x4 x5 xt0 hc1 hc2 hc3 hc4 y)
  rw [piecesA_7 (F := Ideal) c i arg3 harg3 arg4 harg4 arg5 harg5 arg6 harg6 arg7 harg7 arg8 harg8 arg9 harg9 arg10 harg10 x0 x1 x2 x3 x4 x5 xt0 hc1 hc2 hc3 hc4]
  intro p hp x
  rcases List.mem_cons.1 hp with rfl | hp
  · exact piece7 x0 x1 x2 x3 _ 256 (by norm_num) _ (fun j Q hQ => ok13 _ j Q hQ) _ _ _ _ inb_S1x1x1x512_S1x1x1x256_0_0_0_256 x
  · obtain rfl := List.mem_singleton.1 hp
    exact piece7 x0 x1 x2 x3 _ 0 (by norm_num) _ (fun j Q hQ => ok6 _ j Q (by omega)) _ _ _ _ inb_S1x1x1x512_S1x1x1x256_0_0_0_0 x

theorem outB_6_eq (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec Ideal S1x1x64x512 .fp8e4m3) (x1 : Vec Ideal S1x1x512x64 .fp8e4m3) (x2 : Vec Ideal S1x1x1x512 .f32) (x3 : Vec Ideal S1x1x1x512 .f32) (x4 : Vec Ideal S1x1x64x512 .bf16) (x5 : Vec Ideal S1x1x64x512 .bf16) (xt0 : TbBuf0 (F := Ideal) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) :
    outB_6 (F := Ideal) c i arg3 harg3 arg4 harg4 arg5 harg5 arg6 harg6 arg7 harg7 arg8 harg8 arg9 harg9 arg10 harg10 x0 x1 x2 x3 x4 x5 xt0 hc1 hc2 hc3 hc4 = G6 x0 x1 x2 x3 x4 x5 (word c i xt0) := by
  funext y
  refine View.read_writes_apply_of_pieces VO0_6 VO0_6.junk (G6 x0 x1 x2 x3 x4 x5 (word c i xt0)) _ ?_ y (coverB_6 (F := Ideal) c i arg3 harg3 arg4 harg4 arg5 harg5 arg6 harg6 arg7 harg7 arg8 harg8 arg9 harg9 arg10 harg10 x0 x1 x2 x3 x4 x5 xt0 hc1 hc2 hc3 hc4 y)
  rw [piecesB_6 (F := Ideal) c i arg3 harg3 arg4 harg4 arg5 harg5 arg6 harg6 arg7 harg7 arg8 harg8 arg9 harg9 arg10 harg10 x0 x1 x2 x3 x4 x5 xt0 hc1 hc2 hc3 hc4]
  intro p hp x
  rcases List.mem_cons.1 hp with rfl | hp
  · exact (pay16_apply x).trans (zero6 x0 x1 x2 x3 x4 x5 _ 256 (by norm_num) (fun h => hc3 ((cond3_iff _).2 h)) inb_S1x1x16x512_S1x1x16x256_0_0_0_256 x)
  · obtain rfl := List.mem_singleton.1 hp
    exact piece6 x0 x1 x2 x3 x4 x5 _ 0 (by norm_num) _ (fun j Q hQ => ok6 _ j Q (by omega)) _ _ _ _ _ _ inb_S1x1x16x512_S1x1x16x256_0_0_0_0 x

theorem outB_7_eq (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec Ideal S1x1x64x512 .fp8e4m3) (x1 : Vec Ideal S1x1x512x64 .fp8e4m3) (x2 : Vec Ideal S1x1x1x512 .f32) (x3 : Vec Ideal S1x1x1x512 .f32) (x4 : Vec Ideal S1x1x64x512 .bf16) (x5 : Vec Ideal S1x1x64x512 .bf16) (xt0 : TbBuf0 (F := Ideal) c tbM0_0)
    (hc1 : k0_cond1 (word c i xt0) = 1#1) (hc2 : ¬ k0_cond2 (word c i xt0) = 1#1) (hc3 : ¬ k0_cond3 (word c i xt0) = 1#1) (hc4 : k0_cond4 (word c i xt0) = 1#1) :
    outB_7 (F := Ideal) c i arg3 harg3 arg4 harg4 arg5 harg5 arg6 harg6 arg7 harg7 arg8 harg8 arg9 harg9 arg10 harg10 x0 x1 x2 x3 x4 x5 xt0 hc1 hc2 hc3 hc4 = G7 x0 x1 x2 x3 (word c i xt0) := by
  funext y
  refine View.read_writes_apply_of_pieces VO0_7 VO0_7.junk (G7 x0 x1 x2 x3 (word c i xt0)) _ ?_ y (coverB_7 (F := Ideal) c i arg3 harg3 arg4 harg4 arg5 harg5 arg6 harg6 arg7 harg7 arg8 harg8 arg9 harg9 arg10 harg10 x0 x1 x2 x3 x4 x5 xt0 hc1 hc2 hc3 hc4 y)
  rw [piecesB_7 (F := Ideal) c i arg3 harg3 arg4 harg4 arg5 harg5 arg6 harg6 arg7 harg7 arg8 harg8 arg9 harg9 arg10 harg10 x0 x1 x2 x3 x4 x5 xt0 hc1 hc2 hc3 hc4]
  intro p hp x
  rcases List.mem_cons.1 hp with rfl | hp
  · exact (pay17_apply x).trans (zero7 x0 x1 x2 x3 _ 256 (by norm_num) (fun h => hc3 ((cond3_iff _).2 h)) inb_S1x1x1x512_S1x1x1x256_0_0_0_256 x)
  · obtain rfl := List.mem_singleton.1 hp
    exact piece7 x0 x1 x2 x3 _ 0 (by norm_num) _ (fun j Q hQ => ok6 _ j Q (by omega)) _ _ _ _ inb_S1x1x1x512_S1x1x1x256_0_0_0_0 x

theorem outC_6_eq (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec Ideal S1x1x64x512 .fp8e4m3) (x1 : Vec Ideal S1x1x512x64 .fp8e4m3) (x2 : Vec Ideal S1x1x1x512 .f32) (x3 : Vec Ideal S1x1x1x512 .f32) (x4 : Vec Ideal S1x1x64x512 .bf16) (x5 : Vec Ideal S1x1x64x512 .bf16) (xt0 : TbBuf0 (F := Ideal) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) :
    outC_6 (F := Ideal) c i arg3 harg3 arg4 harg4 arg5 harg5 arg6 harg6 arg7 harg7 arg8 harg8 arg9 harg9 arg10 harg10 x0 x1 x2 x3 x4 x5 xt0 hc1 hc2 hc3 hc4 = G6 x0 x1 x2 x3 x4 x5 (word c i xt0) := by
  funext y
  refine View.read_writes_apply_of_pieces VO0_6 VO0_6.junk (G6 x0 x1 x2 x3 x4 x5 (word c i xt0)) _ ?_ y (coverC_6 (F := Ideal) c i arg3 harg3 arg4 harg4 arg5 harg5 arg6 harg6 arg7 harg7 arg8 harg8 arg9 harg9 arg10 harg10 x0 x1 x2 x3 x4 x5 xt0 hc1 hc2 hc3 hc4 y)
  rw [piecesC_6 (F := Ideal) c i arg3 harg3 arg4 harg4 arg5 harg5 arg6 harg6 arg7 harg7 arg8 harg8 arg9 harg9 arg10 harg10 x0 x1 x2 x3 x4 x5 xt0 hc1 hc2 hc3 hc4]
  intro p hp x
  rcases List.mem_cons.1 hp with rfl | hp
  · exact (pay16_apply x).trans (zero6 x0 x1 x2 x3 x4 x5 _ 256 (by norm_num) (fun h => hc1 ((cond1_iff _).2 (lt_trans (by norm_num) h))) inb_S1x1x16x512_S1x1x16x256_0_0_0_256 x)
  · obtain rfl := List.mem_singleton.1 hp
    exact (pay9_apply x).trans (zero6 x0 x1 x2 x3 x4 x5 _ 0 (by norm_num) (fun h => hc1 ((cond1_iff _).2 h)) inb_S1x1x16x512_S1x1x16x256_0_0_0_0 x)

theorem outC_7_eq (c : Dev nD) (i : grid0.Coords) (arg3 : Memref sig .tc .vmem S1x1x64x512 .fp8e4m3) (harg3 : arg3.IsWhole) (arg4 : Memref sig .tc .vmem S1x1x512x64 .fp8e4m3) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x64x512 .bf16) (harg7 : arg7.IsWhole) (arg8 : Memref sig .tc .vmem S1x1x64x512 .bf16) (harg8 : arg8.IsWhole) (arg9 : Memref sig .tc .vmem S1x1x16x512 .f32) (harg9 : arg9.IsWhole) (arg10 : Memref sig .tc .vmem S1x1x1x512 .f32) (harg10 : arg10.IsWhole)
    (x0 : Vec Ideal S1x1x64x512 .fp8e4m3) (x1 : Vec Ideal S1x1x512x64 .fp8e4m3) (x2 : Vec Ideal S1x1x1x512 .f32) (x3 : Vec Ideal S1x1x1x512 .f32) (x4 : Vec Ideal S1x1x64x512 .bf16) (x5 : Vec Ideal S1x1x64x512 .bf16) (xt0 : TbBuf0 (F := Ideal) c tbM0_0)
    (hc1 : ¬ k0_cond1 (word c i xt0) = 1#1) (hc2 : k0_cond2 (word c i xt0) = 1#1) (hc3 : ¬ k0_cond3 (word c i xt0) = 1#1) (hc4 : k0_cond4 (word c i xt0) = 1#1) :
    outC_7 (F := Ideal) c i arg3 harg3 arg4 harg4 arg5 harg5 arg6 harg6 arg7 harg7 arg8 harg8 arg9 harg9 arg10 harg10 x0 x1 x2 x3 x4 x5 xt0 hc1 hc2 hc3 hc4 = G7 x0 x1 x2 x3 (word c i xt0) := by
  funext y
  refine View.read_writes_apply_of_pieces VO0_7 VO0_7.junk (G7 x0 x1 x2 x3 (word c i xt0)) _ ?_ y (coverC_7 (F := Ideal) c i arg3 harg3 arg4 harg4 arg5 harg5 arg6 harg6 arg7 harg7 arg8 harg8 arg9 harg9 arg10 harg10 x0 x1 x2 x3 x4 x5 xt0 hc1 hc2 hc3 hc4 y)
  rw [piecesC_7 (F := Ideal) c i arg3 harg3 arg4 harg4 arg5 harg5 arg6 harg6 arg7 harg7 arg8 harg8 arg9 harg9 arg10 harg10 x0 x1 x2 x3 x4 x5 xt0 hc1 hc2 hc3 hc4]
  intro p hp x
  rcases List.mem_cons.1 hp with rfl | hp
  · exact (pay17_apply x).trans (zero7 x0 x1 x2 x3 _ 256 (by norm_num) (fun h => hc1 ((cond1_iff _).2 (lt_trans (by norm_num) h))) inb_S1x1x1x512_S1x1x1x256_0_0_0_256 x)
  · obtain rfl := List.mem_singleton.1 hp
    exact (pay10_apply x).trans (zero7 x0 x1 x2 x3 _ 0 (by norm_num) (fun h => hc1 ((cond1_iff _).2 h)) inb_S1x1x1x512_S1x1x1x256_0_0_0_0 x)

end Cert.Value

end
-- ==== Proof.Value.Arrays.lean ====
/- The arrays a run of the idealized kernel leaves: each grid point's two blocks are the formula over that batch row and
   head, so the two output arrays are the formula over the arguments. -/
module

public import proofs.«01_k».proof.Proof.Value.Out
public import proofs.«01_k».proof.Proof.KernelIdeal.Frame
public import Idealize.ShloMosaic.Lib.Pipeline.Covers
public import Idealize.ShloMosaic.Lib.Pipeline.Value
public import Idealize.ShloMosaic.Lib.Pipeline.ValueKit.Geometry
public import Idealize.ShloMosaic.Lib.StableHlo.Run

@[expose] public section

set_option maxRecDepth 16384

noncomputable section

namespace Cert.Value

open Cert.KernelIdeal Cert.KernelIdeal.Gen Cert.KernelIdeal.Body
open Idealize.ShloMosaic Idealize.ShloMosaic.TcCoe Idealize.ShloMosaic.Tactic Idealize.SL.Sem
open Idealize.ShloMosaic.StableHlo

/-! ## The results as formulas over the arguments -/

section Spec

variable (a0 : Vec Ideal S3x512x32x64 .fp8e4m3) (a1 : Vec Ideal S3x512x32 .f32) (a2 : Vec Ideal S3x512x32x64 .fp8e4m3)
  (a3 : Vec Ideal S3x512x32 .f32) (a4 : Vec Ideal S3x512x32x64 .bf16) (a5 : Vec Ideal S3x512x32x64 .bf16) (a6 : IVec S3 32)

/-- The scores of query `Q` of batch row `b`, head `h`. -/
def aScore (b : Fin 3) (h : Fin 32) (Q : Fin 512) : Fin 512 → EReal :=
  score (a6 (ix1 b)) (fun d => a0 (ix4 b Q h d)) (fun kk d => a2 (ix4 b kk h d)) (a1 (ix3 b Q h)) (fun kk => a3 (ix3 b kk h))

/-- The row loss of candidate `c`, and the centered log-sum-exp. -/
def aRow (b : Fin 3) (h : Fin 32) (Q : Fin 512) (c : Fin 16) : EReal :=
  gRow (a6 (ix1 b)) Q c (aScore a0 a1 a2 a3 a6 b h Q) (fun d kk => a4 (ix4 b kk h d)) (fun d => a5 (ix4 b Q h d))
def aLse (b : Fin 3) (h : Fin 32) (Q : Fin 512) : EReal :=
  gLse (a6 (ix1 b)) Q (aScore a0 a1 a2 a3 a6 b h Q)

end Spec

/-! ## The host's transposes before the kernel -/

variable (m : (ℓ : Loc nD τ sig) → Buf (Elt Ideal) ℓ) (c : Dev nD)

theorem V_v0 : V m c main_v0 = transpose S3x32x64x512 [0, 2, 3, 1] (m ((c : Thread nD τ).loc main_arg0)) transposes_S3x512x32x64_S3x32x64x512_0_2_3_1 := by
  unfold V V0; simp only [hostOps0, List.flatten_cons, List.flatten_nil, List.append_nil]; after_results_simp <;> rfl
theorem V_v1 : V m c main_v1 = transpose S3x32x512x64 [0, 2, 1, 3] (m ((c : Thread nD τ).loc main_arg2)) transposes_S3x512x32x64_S3x32x512x64_0_2_1_3 := by
  unfold V V0; simp only [hostOps0, List.flatten_cons, List.flatten_nil, List.append_nil]; after_results_simp <;> rfl
theorem V_v2 : V m c main_v2 = transpose S3x32x64x512 [0, 2, 3, 1] (m ((c : Thread nD τ).loc main_arg4)) transposes_S3x512x32x64_S3x32x64x512_0_2_3_1 := by
  unfold V V0; simp only [hostOps0, List.flatten_cons, List.flatten_nil, List.append_nil]; after_results_simp <;> rfl
theorem V_v3 : V m c main_v3 = transpose S3x32x64x512 [0, 2, 3, 1] (m ((c : Thread nD τ).loc main_arg5)) transposes_S3x512x32x64_S3x32x64x512_0_2_3_1 := by
  unfold V V0; simp only [hostOps0, List.flatten_cons, List.flatten_nil, List.append_nil]; after_results_simp <;> rfl
theorem V_v5 : V m c main_v5 = broadcastInDim S3x32x1x512 ![0, 1, 3] bcast_S3x32x512_S3x32x1x512_0_1_3
    (transpose S3x32x512 [0, 2, 1] (m ((c : Thread nD τ).loc main_arg1)) transposes_S3x512x32_S3x32x512_0_2_1) := by
  unfold V V0; simp only [hostOps0, List.flatten_cons, List.flatten_nil, List.append_nil]; after_results_simp <;> rfl
theorem V_v7 : V m c main_v7 = broadcastInDim S3x32x1x512 ![0, 1, 3] bcast_S3x32x512_S3x32x1x512_0_1_3
    (transpose S3x32x512 [0, 2, 1] (m ((c : Thread nD τ).loc main_arg3)) transposes_S3x512x32_S3x32x512_0_2_1) := by
  unfold V V0; simp only [hostOps0, List.flatten_cons, List.flatten_nil, List.append_nil]; after_results_simp <;> rfl

theorem v0_apply (b : Fin 3) (h : Fin 32) (d : Fin 64) (Q : Fin 512) :
    V m c main_v0 (ix4 b h d Q) = m ((c : Thread nD τ).loc main_arg0) (ix4 b Q h d) := by
  rw [V_v0]; simp only [pointwise]
theorem v1_apply (b : Fin 3) (h : Fin 32) (kk : Fin 512) (d : Fin 64) :
    V m c main_v1 (ix4 b h kk d) = m ((c : Thread nD τ).loc main_arg2) (ix4 b kk h d) := by
  rw [V_v1]; simp only [pointwise]
theorem v2_apply (b : Fin 3) (h : Fin 32) (d : Fin 64) (Q : Fin 512) :
    V m c main_v2 (ix4 b h d Q) = m ((c : Thread nD τ).loc main_arg4) (ix4 b Q h d) := by
  rw [V_v2]; simp only [pointwise]
theorem v3_apply (b : Fin 3) (h : Fin 32) (d : Fin 64) (Q : Fin 512) :
    V m c main_v3 (ix4 b h d Q) = m ((c : Thread nD τ).loc main_arg5) (ix4 b Q h d) := by
  rw [V_v3]; simp only [pointwise]
theorem v5_apply (b : Fin 3) (h : Fin 32) (Q : Fin 512) :
    V m c main_v5 (ix4 b h 0 Q) = m ((c : Thread nD τ).loc main_arg1) (ix3 b Q h) := by
  rw [V_v5]; simp only [pointwise]; rfl
theorem v7_apply (b : Fin 3) (h : Fin 32) (Q : Fin 512) :
    V m c main_v7 (ix4 b h 0 Q) = m ((c : Thread nD τ).loc main_arg3) (ix3 b Q h) := by
  rw [V_v7]; simp only [pointwise]; rfl

/-! ## The blocks of a grid point -/

/-- A point's batch row and head. -/
def tb (t : Fin grid0.N) : Fin 3 := ⟨(grid0.coords t 0).val, (grid0.coords t 0).isLt⟩
def th (t : Fin grid0.N) : Fin 32 := ⟨(grid0.coords t 1).val, (grid0.coords t 1).isLt⟩

variable (hO : Ok m) (t : Fin (cfgM m hO).N)

/-- The length word the point loads is its batch row's. -/
theorem word_eq : word c (grid0.coords t) (tbl m 0) = m ((c : Thread nD τ).loc main_arg6) (ix1 (tb t)) := by
  have h0 : tbl m 0 = m ((c : Thread nD τ).loc main_arg6) := by
    obtain rfl : c = 0 := Subsingleton.elim _ _
    exact V_main_arg6 m 0
  rw [h0]
  refine congrArg (m ((c : Thread nD τ).loc main_arg6)) (funext fun (a : Fin 1) => Fin.ext ?_)
  obtain rfl : a = 0 := Subsingleton.elim _ _
  show k0_off1 (grid0.coords t) 0 + 1 * 0 = _
  rw [k0_off1_eq]; rfl

/-- The first two coordinates of a window's block at a point. -/
theorem idx_b (i : grid0.Coords) : (BitVec.ofNat 32 (i 0).val).toNat = (i 0).val := by
  rw [BitVec.toNat_ofNat]; exact Nat.mod_eq_of_lt (lt_trans (i 0).isLt (by decide))
theorem idx_h (i : grid0.Coords) : (BitVec.ofNat 32 (i 1).val).toNat = (i 1).val := by
  rw [BitVec.toNat_ofNat]; exact Nat.mod_eq_of_lt (lt_trans (i 1).isLt (by decide))

theorem iblk0_apply (d : Fin 64) (Q : Fin 512) : iblk m hO c 0 t (ix4 0 0 d Q) = m ((c : Thread nD τ).loc main_arg0) (ix4 (tb t) Q (th t) d) := by
  rw [← v0_apply m c]
  refine congrArg (V m c main_v0) (funext fun (a : Fin 4) => Fin.ext ?_)
  refine (Pipeline.Window.rect_emb_val ((cfgM m hO).win 0) t (ix4 0 0 d Q) a).trans ?_
  match a with
  | 0 => show (BitVec.ofNat 32 (grid0.coords t 0).val).toNat * 1 + 0 = _; rw [idx_b, Nat.mul_one]; rfl
  | 1 => show (BitVec.ofNat 32 (grid0.coords t 1).val).toNat * 1 + 0 = _; rw [idx_h, Nat.mul_one]; rfl
  | 2 => show 0 * 64 + d.val = d.val; omega
  | 3 => show 0 * 512 + Q.val = Q.val; omega

theorem iblk1_apply (kk : Fin 512) (d : Fin 64) : iblk m hO c 1 t (ix4 0 0 kk d) = m ((c : Thread nD τ).loc main_arg2) (ix4 (tb t) kk (th t) d) := by
  rw [← v1_apply m c]
  refine congrArg (V m c main_v1) (funext fun (a : Fin 4) => Fin.ext ?_)
  refine (Pipeline.Window.rect_emb_val ((cfgM m hO).win 1) t (ix4 0 0 kk d) a).trans ?_
  match a with
  | 0 => show (BitVec.ofNat 32 (grid0.coords t 0).val).toNat * 1 + 0 = _; rw [idx_b, Nat.mul_one]; rfl
  | 1 => show (BitVec.ofNat 32 (grid0.coords t 1).val).toNat * 1 + 0 = _; rw [idx_h, Nat.mul_one]; rfl
  | 2 => show 0 * 512 + kk.val = kk.val; omega
  | 3 => show 0 * 64 + d.val = d.val; omega

theorem iblk2_apply (Q : Fin 512) : iblk m hO c 2 t (ix4 0 0 0 Q) = m ((c : Thread nD τ).loc main_arg1) (ix3 (tb t) Q (th t)) := by
  rw [← v5_apply m c]
  refine congrArg (V m c main_v5) (funext fun (a : Fin 4) => Fin.ext ?_)
  refine (Pipeline.Window.rect_emb_val ((cfgM m hO).win 2) t (ix4 0 0 0 Q) a).trans ?_
  match a with
  | 0 => show (BitVec.ofNat 32 (grid0.coords t 0).val).toNat * 1 + 0 = _; rw [idx_b, Nat.mul_one]; rfl
  | 1 => show (BitVec.ofNat 32 (grid0.coords t 1).val).toNat * 1 + 0 = _; rw [idx_h, Nat.mul_one]; rfl
  | 2 => show 0 * 1 + 0 = 0; omega
  | 3 => show 0 * 512 + Q.val = Q.val; omega

theorem iblk3_apply (Q : Fin 512) : iblk m hO c 3 t (ix4 0 0 0 Q) = m ((c : Thread nD τ).loc main_arg3) (ix3 (tb t) Q (th t)) := by
  rw [← v7_apply m c]
  refine congrArg (V m c main_v7) (funext fun (a : Fin 4) => Fin.ext ?_)
  refine (Pipeline.Window.rect_emb_val ((cfgM m hO).win 3) t (ix4 0 0 0 Q) a).trans ?_
  match a with
  | 0 => show (BitVec.ofNat 32 (grid0.coords t 0).val).toNat * 1 + 0 = _; rw [idx_b, Nat.mul_one]; rfl
  | 1 => show (BitVec.ofNat 32 (grid0.coords t 1).val).toNat * 1 + 0 = _; rw [idx_h, Nat.mul_one]; rfl
  | 2 => show 0 * 1 + 0 = 0; omega
  | 3 => show 0 * 512 + Q.val = Q.val; omega

theorem iblk4_apply (d : Fin 64) (Q : Fin 512) : iblk m hO c 4 t (ix4 0 0 d Q) = m ((c : Thread nD τ).loc main_arg4) (ix4 (tb t) Q (th t) d) := by
  rw [← v2_apply m c]
  refine congrArg (V m c main_v2) (funext fun (a : Fin 4) => Fin.ext ?_)
  refine (Pipeline.Window.rect_emb_val ((cfgM m hO).win 4) t (ix4 0 0 d Q) a).trans ?_
  match a with
  | 0 => show (BitVec.ofNat 32 (grid0.coords t 0).val).toNat * 1 + 0 = _; rw [idx_b, Nat.mul_one]; rfl
  | 1 => show (BitVec.ofNat 32 (grid0.coords t 1).val).toNat * 1 + 0 = _; rw [idx_h, Nat.mul_one]; rfl
  | 2 => show 0 * 64 + d.val = d.val; omega
  | 3 => show 0 * 512 + Q.val = Q.val; omega

theorem iblk5_apply (d : Fin 64) (Q : Fin 512) : iblk m hO c 5 t (ix4 0 0 d Q) = m ((c : Thread nD τ).loc main_arg5) (ix4 (tb t) Q (th t) d) := by
  rw [← v3_apply m c]
  refine congrArg (V m c main_v3) (funext fun (a : Fin 4) => Fin.ext ?_)
  refine (Pipeline.Window.rect_emb_val ((cfgM m hO).win 5) t (ix4 0 0 d Q) a).trans ?_
  match a with
  | 0 => show (BitVec.ofNat 32 (grid0.coords t 0).val).toNat * 1 + 0 = _; rw [idx_b, Nat.mul_one]; rfl
  | 1 => show (BitVec.ofNat 32 (grid0.coords t 1).val).toNat * 1 + 0 = _; rw [idx_h, Nat.mul_one]; rfl
  | 2 => show 0 * 64 + d.val = d.val; omega
  | 3 => show 0 * 512 + Q.val = Q.val; omega

/-! ## What a point leaves in the two output blocks -/

theorem outs_eq : outsAt0 m hO c t
    = (G6 (iblk m hO c 0 t) (iblk m hO c 1 t) (iblk m hO c 2 t) (iblk m hO c 3 t) (iblk m hO c 4 t) (iblk m hO c 5 t) (word c (grid0.coords t) (tbl m 0)),
       G7 (iblk m hO c 0 t) (iblk m hO c 1 t) (iblk m hO c 2 t) (iblk m hO c 3 t) (word c (grid0.coords t) (tbl m 0))) := by
  by_cases h1 : k0_cond1 (word c (grid0.coords t) (tbl m 0)) = 1#1
  · by_cases h3 : k0_cond3 (word c (grid0.coords t) (tbl m 0)) = 1#1
    · rw [outsAt0_A m hO c t h1 h3]
      exact congrArg₂ Prod.mk (outA_6_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3)) (outA_7_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 (fun h => (cond4_iff _).1 h h3))
    · rw [outsAt0_B m hO c t h1 h3]
      exact congrArg₂ Prod.mk (outB_6_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3)) (outB_7_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 (fun h => (cond2_iff _).1 h h1) h3 ((cond4_iff _).2 h3))
  · rw [outsAt0_C m hO c t h1]
    exact congrArg₂ Prod.mk (outC_6_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h))) (outC_7_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (tbl m 0) h1 ((cond2_iff _).2 h1) (fun h => h1 (cond1_of_cond3 _ h)) ((cond4_iff _).2 fun h => h1 (cond1_of_cond3 _ h)))

/-- The two output arrays' values. -/
def rowVal : Vec Ideal S3x32x16x512 .f32 := fun y =>
  aRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (y 0) (y 1) (y 3) (y 2)
def lseVal : Vec Ideal S3x32x1x512 .f32 := fun y =>
  aLse (m ((c : Thread nD τ).loc main_arg0)) (m ((c : Thread nD τ).loc main_arg1)) (m ((c : Thread nD τ).loc main_arg2)) (m ((c : Thread nD τ).loc main_arg3))
    (m ((c : Thread nD τ).loc main_arg6)) (y 0) (y 1) (y 3)

theorem bScore_eq (Q : Fin 512) : bScore (iblk m hO c 0 t) (iblk m hO c 1 t) (iblk m hO c 2 t) (iblk m hO c 3 t) (word c (grid0.coords t) (tbl m 0)) Q
    = aScore (m ((c : Thread nD τ).loc main_arg0)) (m ((c : Thread nD τ).loc main_arg1)) (m ((c : Thread nD τ).loc main_arg2)) (m ((c : Thread nD τ).loc main_arg3))
        (m ((c : Thread nD τ).loc main_arg6)) (tb t) (th t) Q := by
  unfold bScore aScore
  rw [word_eq m c hO t, iblk2_apply]
  simp only [iblk0_apply, iblk1_apply, iblk3_apply]

theorem outs6 : (outsAt0 m hO c t).1 = G6 (iblk m hO c 0 t) (iblk m hO c 1 t) (iblk m hO c 2 t) (iblk m hO c 3 t) (iblk m hO c 4 t) (iblk m hO c 5 t) (word c (grid0.coords t) (tbl m 0)) := by
  rw [outs_eq]
theorem after6 : (dats m hO 0 c).after 6 t = G6 (iblk m hO c 0 t) (iblk m hO c 1 t) (iblk m hO c 2 t) (iblk m hO c 3 t) (iblk m hO c 4 t) (iblk m hO c 5 t) (word c (grid0.coords t) (tbl m 0)) := by
  rw [after0_6, outs6]

/-- Where window 6's block puts its elements, and what it puts there. -/
theorem emb6 (j : Fin 16) (Q : Fin 512) : (((cfgM m hO).win 6).rect t).emb (ix4 0 0 j Q) = ix4 (tb t) (th t) j Q := by
  refine funext fun (a : Fin 4) => Fin.ext ?_
  refine (Pipeline.Window.rect_emb_val ((cfgM m hO).win 6) t (ix4 0 0 j Q) a).trans ?_
  match a with
  | 0 => show (BitVec.ofNat 32 (grid0.coords t 0).val).toNat * 1 + 0 = _; rw [idx_b, Nat.mul_one]; rfl
  | 1 => show (BitVec.ofNat 32 (grid0.coords t 1).val).toNat * 1 + 0 = _; rw [idx_h, Nat.mul_one]; rfl
  | 2 => show 0 * 16 + j.val = j.val; omega
  | 3 => show 0 * 512 + Q.val = Q.val; omega

theorem xinj6 (j : Fin 16) (Q : Fin 512) : ((cfgM m hO).win 6).xinj (grid0.coords t) (ix4 0 0 j Q) = ix4 0 0 j Q :=
  funext fun (a : Fin 4) => Fin.ext rfl

theorem read6 (y) : (((cfgM m hO).win 6).blk t).view.read (Elt Ideal) (rowVal m c) y = rowVal m c ((((cfgM m hO).win 6).rect t).emb y) := rfl

theorem val6 (j : Fin 16) (Q : Fin 512) : G6 (iblk m hO c 0 t) (iblk m hO c 1 t) (iblk m hO c 2 t) (iblk m hO c 3 t) (iblk m hO c 4 t) (iblk m hO c 5 t) (word c (grid0.coords t) (tbl m 0)) (ix4 0 0 j Q) = rowVal m c (ix4 (tb t) (th t) j Q) := by
  show gRow (word c (grid0.coords t) (tbl m 0)) Q j (bScore (iblk m hO c 0 t) (iblk m hO c 1 t) (iblk m hO c 2 t) (iblk m hO c 3 t) (word c (grid0.coords t) (tbl m 0)) Q)
    (fun d kk => iblk m hO c 4 t (ix4 0 0 d kk)) (fun d => iblk m hO c 5 t (ix4 0 0 d Q)) = aRow _ _ _ _ _ _ _ (tb t) (th t) Q j
  rw [bScore_eq, word_eq m c hO t]
  simp only [iblk4_apply, iblk5_apply]
  rfl

theorem flushed6 : (dats m hO 0 c).flushed 6 t = (((cfgM m hO).win 6).blk t).view.read (Elt Ideal) (rowVal m c) := by
  funext y
  rw [Pipeline.Dat.flushed_apply, read6]
  obtain ⟨a, b, j, Q, rfl⟩ : ∃ (a b : Fin 1) (j : Fin 16) (Q : Fin 512), y = ix4 a b j Q := ⟨_, _, _, _, eq_ix4 y⟩
  obtain rfl : a = 0 := Subsingleton.elim _ _
  obtain rfl : b = 0 := Subsingleton.elim _ _
  erw [xinj6]
  rw [after6, emb6, val6]

theorem outs7 : (outsAt0 m hO c t).2 = G7 (iblk m hO c 0 t) (iblk m hO c 1 t) (iblk m hO c 2 t) (iblk m hO c 3 t) (word c (grid0.coords t) (tbl m 0)) := by
  rw [outs_eq]
theorem after7 : (dats m hO 0 c).after 7 t = G7 (iblk m hO c 0 t) (iblk m hO c 1 t) (iblk m hO c 2 t) (iblk m hO c 3 t) (word c (grid0.coords t) (tbl m 0)) := by
  rw [after0_7, outs7]

/-- Where window 7's block puts its elements, and what it puts there. -/
theorem emb7 (Q : Fin 512) : (((cfgM m hO).win 7).rect t).emb (ix4 0 0 0 Q) = ix4 (tb t) (th t) 0 Q := by
  refine funext fun (a : Fin 4) => Fin.ext ?_
  refine (Pipeline.Window.rect_emb_val ((cfgM m hO).win 7) t (ix4 0 0 0 Q) a).trans ?_
  match a with
  | 0 => show (BitVec.ofNat 32 (grid0.coords t 0).val).toNat * 1 + 0 = _; rw [idx_b, Nat.mul_one]; rfl
  | 1 => show (BitVec.ofNat 32 (grid0.coords t 1).val).toNat * 1 + 0 = _; rw [idx_h, Nat.mul_one]; rfl
  | 2 => rfl
  | 3 => show 0 * 512 + Q.val = Q.val; omega

theorem xinj7 (Q : Fin 512) : ((cfgM m hO).win 7).xinj (grid0.coords t) (ix4 0 0 0 Q) = ix4 0 0 0 Q :=
  funext fun (a : Fin 4) => Fin.ext rfl

theorem read7 (y) : (((cfgM m hO).win 7).blk t).view.read (Elt Ideal) (lseVal m c) y = lseVal m c ((((cfgM m hO).win 7).rect t).emb y) := rfl

theorem val7 (Q : Fin 512) : G7 (iblk m hO c 0 t) (iblk m hO c 1 t) (iblk m hO c 2 t) (iblk m hO c 3 t) (word c (grid0.coords t) (tbl m 0)) (ix4 0 0 0 Q) = lseVal m c (ix4 (tb t) (th t) 0 Q) := by
  show gLse (word c (grid0.coords t) (tbl m 0)) Q (bScore (iblk m hO c 0 t) (iblk m hO c 1 t) (iblk m hO c 2 t) (iblk m hO c 3 t) (word c (grid0.coords t) (tbl m 0)) Q) = aLse _ _ _ _ _ (tb t) (th t) Q
  rw [bScore_eq, word_eq m c hO t]
  rfl

theorem flushed7 : (dats m hO 0 c).flushed 7 t = (((cfgM m hO).win 7).blk t).view.read (Elt Ideal) (lseVal m c) := by
  funext y
  rw [Pipeline.Dat.flushed_apply, read7]
  obtain ⟨a, b, j, Q, rfl⟩ : ∃ (a b : Fin 1) (j : Fin 1) (Q : Fin 512), y = ix4 a b j Q := ⟨_, _, _, _, eq_ix4 y⟩
  obtain rfl : a = 0 := Subsingleton.elim _ _
  obtain rfl : b = 0 := Subsingleton.elim _ _
  obtain rfl : j = 0 := Subsingleton.elim _ _
  erw [xinj7]
  rw [after7, emb7, val7]

/-! ## Every element lies in the block of some point that is written back -/

theorem cover6 (i : S3x32x16x512.Idx) : ∃ t, ((cfgM m hO).win 6).flush t = true ∧ i ∈ (((cfgM m hO).win 6).blk t).view.set := by
  obtain ⟨t₀, ht₀⟩ := grid0.coords_surjective (fun a => match a with | 0 => i 0 | 1 => i 1)
  obtain ⟨t, -, hf, hi⟩ := ((cfgM m hO).win 6).exists_flush_same_index (by rfl) t₀
  have e0 : (grid0.coords t₀ 0).val = (i 0).val := by rw [ht₀]
  have e1 : (grid0.coords t₀ 1).val = (i 1).val := by rw [ht₀]
  refine ⟨t, hf, ?_⟩
  show i ∈ ((View.whole main_v8_0).slice (((cfgM m hO).win 6).rect t)).set
  erw [View.set_slice_whole]
  refine (Pipeline.Window.mem_rect_iff ((cfgM m hO).win 6) t i (by rfl)).mpr fun (a : Fin 4) => ?_
  rw [hi]
  match a with
  | 0 =>
    show (BitVec.ofNat 32 (grid0.coords t₀ 0).val).toNat * 1 ≤ (i 0).val ∧ (i 0).val < (BitVec.ofNat 32 (grid0.coords t₀ 0).val).toNat * 1 + 1
    rw [idx_b, e0]; omega
  | 1 =>
    show (BitVec.ofNat 32 (grid0.coords t₀ 1).val).toNat * 1 ≤ (i 1).val ∧ (i 1).val < (BitVec.ofNat 32 (grid0.coords t₀ 1).val).toNat * 1 + 1
    rw [idx_h, e1]; omega
  | 2 => show 0 * 16 ≤ (i 2).val ∧ (i 2).val < 0 * 16 + 16; exact ⟨by omega, by have := (i 2).isLt; exact (Nat.zero_mul 16).symm ▸ (Nat.zero_add 16).symm ▸ this⟩
  | 3 => show 0 * 512 ≤ (i 3).val ∧ (i 3).val < 0 * 512 + 512; exact ⟨by omega, by have := (i 3).isLt; exact (Nat.zero_mul 512).symm ▸ (Nat.zero_add 512).symm ▸ this⟩

/-- The array window 6 leaves. -/
theorem final6 : (dats m hO 0 c).arrAt 6 (cfgM m hO).N = rowVal m c :=
  (dats m hO 0 c).arrAt_eq_of_cover 6 (rowVal m c) (fun t _ => flushed6 m c hO t) (cover6 m hO)

theorem cover7 (i : S3x32x1x512.Idx) : ∃ t, ((cfgM m hO).win 7).flush t = true ∧ i ∈ (((cfgM m hO).win 7).blk t).view.set := by
  obtain ⟨t₀, ht₀⟩ := grid0.coords_surjective (fun a => match a with | 0 => i 0 | 1 => i 1)
  obtain ⟨t, -, hf, hi⟩ := ((cfgM m hO).win 7).exists_flush_same_index (by rfl) t₀
  have e0 : (grid0.coords t₀ 0).val = (i 0).val := by rw [ht₀]
  have e1 : (grid0.coords t₀ 1).val = (i 1).val := by rw [ht₀]
  refine ⟨t, hf, ?_⟩
  show i ∈ ((View.whole main_v8_1).slice (((cfgM m hO).win 7).rect t)).set
  erw [View.set_slice_whole]
  refine (Pipeline.Window.mem_rect_iff ((cfgM m hO).win 7) t i (by rfl)).mpr fun (a : Fin 4) => ?_
  rw [hi]
  match a with
  | 0 =>
    show (BitVec.ofNat 32 (grid0.coords t₀ 0).val).toNat * 1 ≤ (i 0).val ∧ (i 0).val < (BitVec.ofNat 32 (grid0.coords t₀ 0).val).toNat * 1 + 1
    rw [idx_b, e0]; omega
  | 1 =>
    show (BitVec.ofNat 32 (grid0.coords t₀ 1).val).toNat * 1 ≤ (i 1).val ∧ (i 1).val < (BitVec.ofNat 32 (grid0.coords t₀ 1).val).toNat * 1 + 1
    rw [idx_h, e1]; omega
  | 2 => show 0 * 1 ≤ (i 2).val ∧ (i 2).val < 0 * 1 + 1; exact ⟨by omega, by have := (i 2).isLt; exact (Nat.zero_mul 1).symm ▸ (Nat.zero_add 1).symm ▸ this⟩
  | 3 => show 0 * 512 ≤ (i 3).val ∧ (i 3).val < 0 * 512 + 512; exact ⟨by omega, by have := (i 3).isLt; exact (Nat.zero_mul 512).symm ▸ (Nat.zero_add 512).symm ▸ this⟩

/-- The array window 7 leaves. -/
theorem final7 : (dats m hO 0 c).arrAt 7 (cfgM m hO).N = lseVal m c :=
  (dats m hO 0 c).arrAt_eq_of_cover 7 (lseVal m c) (fun t _ => flushed7 m c hO t) (cover7 m hO)

end Cert.Value

end
-- ==== Proof.Value.Run.lean ====
/- What the idealized kernel's program leaves in its three results. -/
module

public import proofs.«01_k».proof.Proof.Value.Arrays

@[expose] public section

set_option maxRecDepth 16384

noncomputable section

namespace Cert.Value

open Cert.KernelIdeal Cert.KernelIdeal.Gen Cert.KernelIdeal.Body
open Idealize.ShloMosaic Idealize.ShloMosaic.TcCoe Idealize.ShloMosaic.Tactic Idealize.SL.Sem
open Idealize.ShloMosaic.StableHlo

variable (m : (ℓ : Loc nD τ sig) → Buf (Elt Ideal) ℓ) (hO : Ok m) (c : Dev nD)

/-- The three results, over the arrays the grid leaves. -/
def rowOut : Vec Ideal S3x32x512x16 .f32 := transpose S3x32x512x16 [0, 1, 3, 2] (rowVal m c) transposes_S3x32x16x512_S3x32x512x16_0_1_3_2
def lossOut : Vec Ideal S32x16 .f32 :=
  Host.reduceAdd (rowVal m c) (constant (F := Ideal) S_ .f32 0x00000000#32) reducesTo_S3x32x16x512_S32x16_d0_3 h_S_
def lseOut : Vec Ideal S3x32x512 .f32 := shapeCast S3x32x512 (lseVal m c) shapeCasts_S3x32x1x512_S3x32x512

/-- The host operations after the grid, from any contents. -/
theorem after_v9 (V1 : Valuation τ sig (Elt Ideal)) : after (List.flatten [hostOps1]) V1 (Proc.devRef .tc main_v9)
    = transpose S3x32x512x16 [0, 1, 3, 2] (V1 (Proc.devRef .tc main_v8_0)) transposes_S3x32x16x512_S3x32x512x16_0_1_3_2 := by
  simp only [hostOps1, List.flatten_cons, List.flatten_nil, List.append_nil]
  after_results_simp
theorem after_v10 (V1 : Valuation τ sig (Elt Ideal)) : after (List.flatten [hostOps1]) V1 (Proc.devRef .tc main_v10)
    = Host.reduceAdd (V1 (Proc.devRef .tc main_v8_0)) (constant (F := Ideal) S_ .f32 0x00000000#32) reducesTo_S3x32x16x512_S32x16_d0_3 h_S_ := by
  simp only [hostOps1, List.flatten_cons, List.flatten_nil, List.append_nil]
  after_results_simp
theorem after_v11 (V1 : Valuation τ sig (Elt Ideal)) : after (List.flatten [hostOps1]) V1 (Proc.devRef .tc main_v11)
    = shapeCast S3x32x512 (V1 (Proc.devRef .tc main_v8_1)) shapeCasts_S3x32x1x512_S3x32x512 := by
  simp only [hostOps1, List.flatten_cons, List.flatten_nil, List.append_nil]
  after_results_simp
  rfl

/-- The buffers as these operations find them: the grid's arrays, the rest as the grid found it. -/
abbrev exitV : Valuation τ sig (Elt Ideal) :=
  Pipeline.withArrays spec0 c (V0 m c) (fun w => (dats m hO 0 c).arrAt w (cfgM m hO).N)

theorem exit_0 : exitV m hO c (Proc.devRef .tc main_v8_0) = rowVal m c :=
  (Pipeline.withArrays_arr spec0 (by decide) c (V0 m c) (fun w => (dats m hO 0 c).arrAt w (cfgM m hO).N) 6).trans (final6 m c hO)
theorem exit_1 : exitV m hO c (Proc.devRef .tc main_v8_1) = lseVal m c :=
  (Pipeline.withArrays_arr spec0 (by decide) c (V0 m c) (fun w => (dats m hO 0 c).arrAt w (cfgM m hO).N) 7).trans (final7 m c hO)

theorem tail_v9 : Pipeline.afterTail pcfgs (fun _ => adm m hO) (dats m hO) 0 (V0 m) [hostOps1] c main_v9 = rowOut m c :=
  (after_v9 (exitV m hO c)).trans (by rw [exit_0]; rfl)
theorem tail_v10 : Pipeline.afterTail pcfgs (fun _ => adm m hO) (dats m hO) 0 (V0 m) [hostOps1] c main_v10 = lossOut m c :=
  (after_v10 (exitV m hO c)).trans (by rw [exit_0]; rfl)
theorem tail_v11 : Pipeline.afterTail pcfgs (fun _ => adm m hO) (dats m hO) 0 (V0 m) [hostOps1] c main_v11 = lseOut m c :=
  (after_v11 (exitV m hO c)).trans (by rw [exit_1]; rfl)

/-- Every run of the program ends with the three results at these values and the arguments as launched. -/
theorem run (hO : Ok m) (ρ : Dev nD → PrngReg) : θ_run defs (onTc (τ := τ) (main (F := Ideal))) ⟨m, fun _ => 0, ρ⟩ (fun r => ∀ c : Dev nD,
      r.2.mem ((c.tc : Thread nD τ).loc main_v10) = lossOut m c
      ∧ r.2.mem ((c.tc : Thread nD τ).loc main_v9) = rowOut m c
      ∧ r.2.mem ((c.tc : Thread nD τ).loc main_v11) = lseOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v10 (by decide : main_v10 ∈ Pipeline.restRefs sig spec0)).trans (tail_v10 m hO c),
      ((h c).2 main_v9 (by decide : main_v9 ∈ Pipeline.restRefs sig spec0)).trans (tail_v9 m hO c),
      ((h c).2 main_v11 (by decide : main_v11 ∈ Pipeline.restRefs sig spec0)).trans (tail_v11 m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c),
      ((h c).2 main_arg5 (by decide : main_arg5 ∈ Pipeline.restRefs sig spec0)).trans (W_main_arg5 m hO (dats m hO) c),
      ((h c).2 main_arg6 (by decide : main_arg6 ∈ Pipeline.restRefs sig spec0)).trans (W_main_arg6 m hO (dats m hO) c)⟩) (run_main m ρ hO)

end Cert.Value

end
-- ==== Proof.Value.Widen.lean ====
/- The reference's first step widens the two arrays of codes to f32: over the reals it copies them. -/
module

public import proofs.«01_k».proof.Proof.Gen.ReferenceIdeal.Run
public import Idealize.ShloMosaic.Lib.Pipeline.Covers
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.Value.Ref

open Cert.ReferenceIdeal Cert.ReferenceIdeal.Gen
open Idealize.ShloMosaic Idealize.ShloMosaic.TcCoe Idealize.ShloMosaic.Tactic Idealize.SL.Sem
open Idealize.ShloMosaic.StableHlo

theorem z4 : (![0, 0, 0, 0] : Fin 4 → ℕ) = fun _ => 0 := by decide

theorem out2_eq (x0 x1 : Vec Ideal S3x512x32x64 .fp8e4m3) : out0_2 (F := Ideal) x0 x1 = (x0 : S3x512x32x64.Idx → EReal) := by
  funext y
  unfold out0_2
  rw [View.canon_unit_zero z4, View.ld_unit_zero z4]
  rfl
theorem out3_eq (x0 x1 : Vec Ideal S3x512x32x64 .fp8e4m3) : out0_3 (F := Ideal) x0 x1 = (x1 : S3x512x32x64.Idx → EReal) := by
  funext y
  unfold out0_3
  rw [View.canon_unit_zero z4, View.ld_unit_zero z4]
  rfl

variable (m : (ℓ : Loc nD τ sig) → Buf (Elt Ideal) ℓ) (c : Dev nD) (t : Fin cfg0.N)

theorem emb0 (y : S3x512x32x64.Idx) : ((cfg0.win 0).rect t).emb y = y := by
  refine funext fun (a : Fin 4) => Fin.ext ?_
  refine (Pipeline.Window.rect_emb_val (cfg0.win 0) t y a).trans ?_
  match a with
  | 0 => show 0 * _ + _ = _; omega
  | 1 => show 0 * _ + _ = _; omega
  | 2 => show 0 * _ + _ = _; omega
  | 3 => show 0 * _ + _ = _; omega
theorem emb1 (y : S3x512x32x64.Idx) : ((cfg0.win 1).rect t).emb y = y := by
  refine funext fun (a : Fin 4) => Fin.ext ?_
  refine (Pipeline.Window.rect_emb_val (cfg0.win 1) t y a).trans ?_
  match a with
  | 0 => show 0 * _ + _ = _; omega
  | 1 => show 0 * _ + _ = _; omega
  | 2 => show 0 * _ + _ = _; omega
  | 3 => show 0 * _ + _ = _; omega
theorem emb2 (y : S3x512x32x64.Idx) : ((cfg0.win 2).rect t).emb y = y := by
  refine funext fun (a : Fin 4) => Fin.ext ?_
  refine (Pipeline.Window.rect_emb_val (cfg0.win 2) t y a).trans ?_
  match a with
  | 0 => show 0 * _ + _ = _; omega
  | 1 => show 0 * _ + _ = _; omega
  | 2 => show 0 * _ + _ = _; omega
  | 3 => show 0 * _ + _ = _; omega
theorem emb3 (y : S3x512x32x64.Idx) : ((cfg0.win 3).rect t).emb y = y := by
  refine funext fun (a : Fin 4) => Fin.ext ?_
  refine (Pipeline.Window.rect_emb_val (cfg0.win 3) t y a).trans ?_
  match a with
  | 0 => show 0 * _ + _ = _; omega
  | 1 => show 0 * _ + _ = _; omega
  | 2 => show 0 * _ + _ = _; omega
  | 3 => show 0 * _ + _ = _; omega

theorem iblk0 : iblk m c 0 t = (m ((c.tc : Thread nD τ).loc main_arg0) : S3x512x32x64.Idx → EReal) := by
  funext y
  exact congrArg (m ((c.tc : Thread nD τ).loc main_arg0)) (emb0 t y)

theorem iblk1 : iblk m c 1 t = (m ((c.tc : Thread nD τ).loc main_arg2) : S3x512x32x64.Idx → EReal) := by
  funext y
  exact congrArg (m ((c.tc : Thread nD τ).loc main_arg2)) (emb1 t y)

theorem xinj2 (y : S3x512x32x64.Idx) : (cfg0.win 2).xinj (grid0.coords t) y = y :=
  funext fun (a : Fin 4) => Fin.ext rfl

theorem read2 (G : S3x512x32x64.Idx → EReal) (y) : ((cfg0.win 2).blk t).view.read (Elt Ideal) G y = G (((cfg0.win 2).rect t).emb y) := rfl

theorem after2 : (dats m 0 c).after 2 t = (m ((c.tc : Thread nD τ).loc main_arg0) : S3x512x32x64.Idx → EReal) := by
  rw [after0_2, out2_eq, iblk0]

theorem flushed2 : (dats m 0 c).flushed 2 t = ((cfg0.win 2).blk t).view.read (Elt Ideal) (m ((c.tc : Thread nD τ).loc main_arg0) : S3x512x32x64.Idx → EReal) := by
  funext y
  rw [Pipeline.Dat.flushed_apply, read2]
  erw [xinj2]
  rw [after2, emb2]

theorem cover2 (i : S3x512x32x64.Idx) : ∃ t, (cfg0.win 2).flush t = true ∧ i ∈ ((cfg0.win 2).blk t).view.set := by
  obtain ⟨t, -, hf, -⟩ := (cfg0.win 2).exists_flush_same_index (by rfl) ⟨0, by decide⟩
  refine ⟨t, hf, ?_⟩
  show i ∈ ((View.whole main_v0_0).slice ((cfg0.win 2).rect t)).set
  erw [View.set_slice_whole]
  refine (Pipeline.Window.mem_rect_iff (cfg0.win 2) t i (by rfl)).mpr fun (a : Fin 4) => ?_
  match a with
  | 0 => show 0 * 3 ≤ (i 0).val ∧ (i 0).val < 0 * 3 + 3; have := (i 0).isLt; exact ⟨by omega, (Nat.zero_mul 3).symm ▸ (Nat.zero_add 3).symm ▸ this⟩
  | 1 => show 0 * 512 ≤ (i 1).val ∧ (i 1).val < 0 * 512 + 512; have := (i 1).isLt; exact ⟨by omega, (Nat.zero_mul 512).symm ▸ (Nat.zero_add 512).symm ▸ this⟩
  | 2 => show 0 * 32 ≤ (i 2).val ∧ (i 2).val < 0 * 32 + 32; have := (i 2).isLt; exact ⟨by omega, (Nat.zero_mul 32).symm ▸ (Nat.zero_add 32).symm ▸ this⟩
  | 3 => show 0 * 64 ≤ (i 3).val ∧ (i 3).val < 0 * 64 + 64; have := (i 3).isLt; exact ⟨by omega, (Nat.zero_mul 64).symm ▸ (Nat.zero_add 64).symm ▸ this⟩

/-- The widened array holds the codes' values. -/
theorem widened2 : Cert.ReferenceIdeal.Value.reg_main_v0_0 m c = (m ((c.tc : Thread nD τ).loc main_arg0) : S3x512x32x64.Idx → EReal) :=
  (dats m 0 c).arrAt_eq_of_cover 2 (m ((c.tc : Thread nD τ).loc main_arg0) : S3x512x32x64.Idx → EReal) (fun t _ => flushed2 m c t) cover2

theorem xinj3 (y : S3x512x32x64.Idx) : (cfg0.win 3).xinj (grid0.coords t) y = y :=
  funext fun (a : Fin 4) => Fin.ext rfl

theorem read3 (G : S3x512x32x64.Idx → EReal) (y) : ((cfg0.win 3).blk t).view.read (Elt Ideal) G y = G (((cfg0.win 3).rect t).emb y) := rfl

theorem after3 : (dats m 0 c).after 3 t = (m ((c.tc : Thread nD τ).loc main_arg2) : S3x512x32x64.Idx → EReal) := by
  rw [after0_3, out3_eq, iblk1]

theorem flushed3 : (dats m 0 c).flushed 3 t = ((cfg0.win 3).blk t).view.read (Elt Ideal) (m ((c.tc : Thread nD τ).loc main_arg2) : S3x512x32x64.Idx → EReal) := by
  funext y
  rw [Pipeline.Dat.flushed_apply, read3]
  erw [xinj3]
  rw [after3, emb3]

theorem cover3 (i : S3x512x32x64.Idx) : ∃ t, (cfg0.win 3).flush t = true ∧ i ∈ ((cfg0.win 3).blk t).view.set := by
  obtain ⟨t, -, hf, -⟩ := (cfg0.win 3).exists_flush_same_index (by rfl) ⟨0, by decide⟩
  refine ⟨t, hf, ?_⟩
  show i ∈ ((View.whole main_v0_1).slice ((cfg0.win 3).rect t)).set
  erw [View.set_slice_whole]
  refine (Pipeline.Window.mem_rect_iff (cfg0.win 3) t i (by rfl)).mpr fun (a : Fin 4) => ?_
  match a with
  | 0 => show 0 * 3 ≤ (i 0).val ∧ (i 0).val < 0 * 3 + 3; have := (i 0).isLt; exact ⟨by omega, (Nat.zero_mul 3).symm ▸ (Nat.zero_add 3).symm ▸ this⟩
  | 1 => show 0 * 512 ≤ (i 1).val ∧ (i 1).val < 0 * 512 + 512; have := (i 1).isLt; exact ⟨by omega, (Nat.zero_mul 512).symm ▸ (Nat.zero_add 512).symm ▸ this⟩
  | 2 => show 0 * 32 ≤ (i 2).val ∧ (i 2).val < 0 * 32 + 32; have := (i 2).isLt; exact ⟨by omega, (Nat.zero_mul 32).symm ▸ (Nat.zero_add 32).symm ▸ this⟩
  | 3 => show 0 * 64 ≤ (i 3).val ∧ (i 3).val < 0 * 64 + 64; have := (i 3).isLt; exact ⟨by omega, (Nat.zero_mul 64).symm ▸ (Nat.zero_add 64).symm ▸ this⟩

/-- The widened array holds the codes' values. -/
theorem widened3 : Cert.ReferenceIdeal.Value.reg_main_v0_1 m c = (m ((c.tc : Thread nD τ).loc main_arg2) : S3x512x32x64.Idx → EReal) :=
  (dats m 0 c).arrAt_eq_of_cover 3 (m ((c.tc : Thread nD τ).loc main_arg2) : S3x512x32x64.Idx → EReal) (fun t _ => flushed3 m c t) cover3

end Cert.Value.Ref

end
-- ==== Proof.Value.RefIdx.lean ====
/- Where each operation of the reference reads its operands, at an index given by its coordinates. -/
module

public import proofs.«01_k».proof.Proof.Gen.ReferenceIdeal.Read
public import Idealize.ShloMosaic.Lib.Pointwise

@[expose] public section

noncomputable section

namespace Cert.Value.Ref

open Cert.ReferenceIdeal Cert.ReferenceIdeal.Read
open Idealize.ShloMosaic Idealize.ShloMosaic.TcCoe

theorem e_idx_main_v2 (i0 : Fin 1) (i1 : Fin 512) : idx_main_v2 (ix2 i0 i1) = ix1 i1 :=
  funext fun (a : Fin 1) => match a with | 0 => rfl
theorem e_idx_main_v3 (i0 : Fin 3) (i1 : Fin 1) : idx_main_v3 (ix2 i0 i1) = ix1 i0 :=
  funext fun (a : Fin 1) => match a with | 0 => rfl
theorem e_idx_main_v4 (i0 : Fin 3) (i1 : Fin 512) : idx_main_v4 (ix2 i0 i1) = ix2 0 i1 :=
  funext fun (a : Fin 2) => match a with | 0 => rfl | 1 => rfl
theorem e_idx_main_v5 (i0 : Fin 3) (i1 : Fin 512) : idx_main_v5 (ix2 i0 i1) = ix2 i0 0 :=
  funext fun (a : Fin 2) => match a with | 0 => rfl | 1 => rfl
theorem e_lidx_main_v7 (i0 : Fin 3) (i1 : Fin 32) (i2 : Fin 512) (i3 : Fin 512) (k : Fin 64) : lidx_main_v7 (ix4 i0 i1 i2 i3) k = ix4 i0 i2 i1 k :=
  funext fun (a : Fin 4) => match a with | 0 => rfl | 1 => rfl | 2 => rfl | 3 => rfl
theorem e_ridx_main_v7 (i0 : Fin 3) (i1 : Fin 32) (i2 : Fin 512) (i3 : Fin 512) (k : Fin 64) : ridx_main_v7 (ix4 i0 i1 i2 i3) k = ix4 i0 i3 i1 k :=
  funext fun (a : Fin 4) => match a with | 0 => rfl | 1 => rfl | 2 => rfl | 3 => rfl
theorem e_idx_main_v8 (i0 : Fin 3) (i1 : Fin 32) (i2 : Fin 512) : idx_main_v8 (ix3 i0 i1 i2) = ix3 i0 i2 i1 :=
  funext fun (a : Fin 3) => match a with | 0 => rfl | 1 => rfl | 2 => rfl
theorem e_idx_main_v9 (i0 : Fin 3) (i1 : Fin 32) (i2 : Fin 512) (i3 : Fin 1) : idx_main_v9 (ix4 i0 i1 i2 i3) = ix3 i0 i1 i2 :=
  funext fun (a : Fin 3) => match a with | 0 => rfl | 1 => rfl | 2 => rfl
theorem e_idx_main_v10 (i0 : Fin 3) (i1 : Fin 32) (i2 : Fin 512) (i3 : Fin 512) : idx_main_v10 (ix4 i0 i1 i2 i3) = ix4 i0 i1 i2 0 :=
  funext fun (a : Fin 4) => match a with | 0 => rfl | 1 => rfl | 2 => rfl | 3 => rfl
theorem e_idx_main_v12 (i0 : Fin 3) (i1 : Fin 32) (i2 : Fin 512) : idx_main_v12 (ix3 i0 i1 i2) = ix3 i0 i2 i1 :=
  funext fun (a : Fin 3) => match a with | 0 => rfl | 1 => rfl | 2 => rfl
theorem e_idx_main_v13 (i0 : Fin 3) (i1 : Fin 32) (i2 : Fin 1) (i3 : Fin 512) : idx_main_v13 (ix4 i0 i1 i2 i3) = ix3 i0 i1 i3 :=
  funext fun (a : Fin 3) => match a with | 0 => rfl | 1 => rfl | 2 => rfl
theorem e_idx_main_v14 (i0 : Fin 3) (i1 : Fin 32) (i2 : Fin 512) (i3 : Fin 512) : idx_main_v14 (ix4 i0 i1 i2 i3) = ix4 i0 i1 0 i3 :=
  funext fun (a : Fin 4) => match a with | 0 => rfl | 1 => rfl | 2 => rfl | 3 => rfl
theorem e_idx_main_v18 (i0 : Fin 3) (i1 : Fin 1) (i2 : Fin 1) (i3 : Fin 512) : idx_main_v18 (ix4 i0 i1 i2 i3) = ix2 i0 i3 :=
  funext fun (a : Fin 2) => match a with | 0 => rfl | 1 => rfl
theorem e_idx_main_call0_v1 (i0 : Fin 3) (i1 : Fin 32) (i2 : Fin 512) (i3 : Fin 512) : idx_main_call0_v1 (ix4 i0 i1 i2 i3) = ix4 i0 0 0 i3 :=
  funext fun (a : Fin 4) => match a with | 0 => rfl | 1 => rfl | 2 => rfl | 3 => rfl
theorem e_idx_main_v21 (i0 : Fin 3) (i1 : Fin 32) (i2 : Fin 512) (i3 : Fin 1) : idx_main_v21 (ix4 i0 i1 i2 i3) = ix3 i0 i1 i2 :=
  funext fun (a : Fin 3) => match a with | 0 => rfl | 1 => rfl | 2 => rfl
theorem e_idx_main_v22 (i0 : Fin 3) (i1 : Fin 32) (i2 : Fin 512) (i3 : Fin 512) : idx_main_v22 (ix4 i0 i1 i2 i3) = ix4 i0 i1 i2 0 :=
  funext fun (a : Fin 4) => match a with | 0 => rfl | 1 => rfl | 2 => rfl | 3 => rfl
theorem e_idx_main_v25 (i0 : Fin 3) (i1 : Fin 32) (i2 : Fin 512) (k : Fin 512) : idx_main_v25 (ix3 i0 i1 i2) k = ix4 i0 i1 i2 k :=
  funext fun (a : Fin 4) => match a with | 0 => rfl | 1 => rfl | 2 => rfl | 3 => rfl
theorem e_idx_main_v26 (i0 : Fin 3) (i1 : Fin 32) (i2 : Fin 512) (i3 : Fin 1) : idx_main_v26 (ix4 i0 i1 i2 i3) = ix3 i0 i1 i2 :=
  funext fun (a : Fin 3) => match a with | 0 => rfl | 1 => rfl | 2 => rfl
theorem e_idx_main_v30 (i0 : Fin 3) (i1 : Fin 32) (i2 : Fin 512) (i3 : Fin 512) : idx_main_v30 (ix4 i0 i1 i2 i3) = ix4 i0 i1 i2 0 :=
  funext fun (a : Fin 4) => match a with | 0 => rfl | 1 => rfl | 2 => rfl | 3 => rfl
theorem e_idx_main_v32 (i0 : Fin 3) (i1 : Fin 32) (i2 : Fin 512) (i3 : Fin 512) : idx_main_v32 (ix4 i0 i1 i2 i3) = ix4 i0 i1 i2 0 :=
  funext fun (a : Fin 4) => match a with | 0 => rfl | 1 => rfl | 2 => rfl | 3 => rfl
theorem e_lidx_main_v36 (i0 : Fin 3) (i1 : Fin 32) (i2 : Fin 512) (i3 : Fin 64) (k : Fin 512) : lidx_main_v36 (ix4 i0 i1 i2 i3) k = ix4 i0 i1 i2 k :=
  funext fun (a : Fin 4) => match a with | 0 => rfl | 1 => rfl | 2 => rfl | 3 => rfl
theorem e_ridx_main_v36 (i0 : Fin 3) (i1 : Fin 32) (i2 : Fin 512) (i3 : Fin 64) (k : Fin 512) : ridx_main_v36 (ix4 i0 i1 i2 i3) k = ix4 i0 k i1 i3 :=
  funext fun (a : Fin 4) => match a with | 0 => rfl | 1 => rfl | 2 => rfl | 3 => rfl
theorem e_idx_main_v47 (i0 : Fin 16) (i1 : Fin 1) (i2 : Fin 1) (i3 : Fin 1) (i4 : Fin 1) : idx_main_v47 (ix5 i0 i1 i2 i3 i4) = ix1 i0 :=
  funext fun (a : Fin 1) => match a with | 0 => rfl
theorem e_idx_main_v53 (i0 : Fin 16) (i1 : Fin 1) (i2 : Fin 1) (i3 : Fin 1) (i4 : Fin 1) : idx_main_v53 (ix5 i0 i1 i2 i3 i4) = ix1 i0 :=
  funext fun (a : Fin 1) => match a with | 0 => rfl
theorem e_idx_main_v60 (i0 : Fin 1) (i1 : Fin 3) (i2 : Fin 32) (i3 : Fin 512) (i4 : Fin 512) : idx_main_v60 (ix5 i0 i1 i2 i3 i4) = ix4 i1 i2 i3 i4 :=
  funext fun (a : Fin 4) => match a with | 0 => rfl | 1 => rfl | 2 => rfl | 3 => rfl
theorem e_idx_main_v61 (i0 : Fin 16) (i1 : Fin 3) (i2 : Fin 32) (i3 : Fin 512) (i4 : Fin 512) : idx_main_v61 (ix5 i0 i1 i2 i3 i4) = ix5 0 i1 i2 i3 i4 :=
  funext fun (a : Fin 5) => match a with | 0 => rfl | 1 => rfl | 2 => rfl | 3 => rfl | 4 => rfl
theorem e_idx_main_v62 (i0 : Fin 16) (i1 : Fin 3) (i2 : Fin 32) (i3 : Fin 512) (i4 : Fin 512) : idx_main_v62 (ix5 i0 i1 i2 i3 i4) = ix5 i0 0 0 0 0 :=
  funext fun (a : Fin 5) => match a with | 0 => rfl | 1 => rfl | 2 => rfl | 3 => rfl | 4 => rfl
theorem e_idx_main_v66 (i0 : Fin 1) (i1 : Fin 3) (i2 : Fin 32) (i3 : Fin 512) (i4 : Fin 512) : idx_main_v66 (ix5 i0 i1 i2 i3 i4) = ix4 i1 i2 i3 i4 :=
  funext fun (a : Fin 4) => match a with | 0 => rfl | 1 => rfl | 2 => rfl | 3 => rfl
theorem e_idx_main_v67 (i0 : Fin 16) (i1 : Fin 3) (i2 : Fin 32) (i3 : Fin 512) (i4 : Fin 512) : idx_main_v67 (ix5 i0 i1 i2 i3 i4) = ix5 0 i1 i2 i3 i4 :=
  funext fun (a : Fin 5) => match a with | 0 => rfl | 1 => rfl | 2 => rfl | 3 => rfl | 4 => rfl
theorem e_idx_main_v68 (i0 : Fin 16) (i1 : Fin 3) (i2 : Fin 32) (i3 : Fin 512) (i4 : Fin 512) : idx_main_v68 (ix5 i0 i1 i2 i3 i4) = ix5 i0 0 0 0 0 :=
  funext fun (a : Fin 5) => match a with | 0 => rfl | 1 => rfl | 2 => rfl | 3 => rfl | 4 => rfl
theorem e_idx_main_v70 (i0 : Fin 1) (i1 : Fin 3) (i2 : Fin 32) (i3 : Fin 512) (i4 : Fin 512) : idx_main_v70 (ix5 i0 i1 i2 i3 i4) = ix4 i1 i2 i3 i4 :=
  funext fun (a : Fin 4) => match a with | 0 => rfl | 1 => rfl | 2 => rfl | 3 => rfl
theorem e_idx_main_call5_v0 (i0 : Fin 16) (i1 : Fin 3) (i2 : Fin 32) (i3 : Fin 512) (i4 : Fin 512) : idx_main_call5_v0 (ix5 i0 i1 i2 i3 i4) = ix5 0 i1 i2 i3 i4 :=
  funext fun (a : Fin 5) => match a with | 0 => rfl | 1 => rfl | 2 => rfl | 3 => rfl | 4 => rfl
theorem e_idx_main_v79 (i0 : Fin 16) (i1 : Fin 1) (i2 : Fin 1) (i3 : Fin 1) (i4 : Fin 1) : idx_main_v79 (ix5 i0 i1 i2 i3 i4) = ix1 i0 :=
  funext fun (a : Fin 1) => match a with | 0 => rfl
theorem e_idx_main_call6_v1 (i0 : Fin 16) (i1 : Fin 3) (i2 : Fin 32) (i3 : Fin 512) (i4 : Fin 512) : idx_main_call6_v1 (ix5 i0 i1 i2 i3 i4) = ix5 i0 0 0 0 0 :=
  funext fun (a : Fin 5) => match a with | 0 => rfl | 1 => rfl | 2 => rfl | 3 => rfl | 4 => rfl
theorem e_lidx_main_v82 (i0 : Fin 3) (i1 : Fin 32) (i2 : Fin 64) (i3 : Fin 16) (i4 : Fin 512) (k : Fin 512) : lidx_main_v82 (ix5 i0 i1 i2 i3 i4) k = ix4 i0 k i1 i2 :=
  funext fun (a : Fin 4) => match a with | 0 => rfl | 1 => rfl | 2 => rfl | 3 => rfl
theorem e_ridx_main_v82 (i0 : Fin 3) (i1 : Fin 32) (i2 : Fin 64) (i3 : Fin 16) (i4 : Fin 512) (k : Fin 512) : ridx_main_v82 (ix5 i0 i1 i2 i3 i4) k = ix5 i3 i0 i1 i4 k :=
  funext fun (a : Fin 5) => match a with | 0 => rfl | 1 => rfl | 2 => rfl | 3 => rfl | 4 => rfl
theorem e_idx_main_v83 (i0 : Fin 16) (i1 : Fin 3) (i2 : Fin 32) (i3 : Fin 512) (i4 : Fin 64) : idx_main_v83 (ix5 i0 i1 i2 i3 i4) = ix5 i1 i2 i4 i0 i3 :=
  funext fun (a : Fin 5) => match a with | 0 => rfl | 1 => rfl | 2 => rfl | 3 => rfl | 4 => rfl
theorem e_idx_main_v84 (i0 : Fin 3) (i1 : Fin 32) (i2 : Fin 512) (i3 : Fin 64) : idx_main_v84 (ix4 i0 i1 i2 i3) = ix4 i0 i2 i1 i3 :=
  funext fun (a : Fin 4) => match a with | 0 => rfl | 1 => rfl | 2 => rfl | 3 => rfl
theorem e_idx_main_v86 (i0 : Fin 1) (i1 : Fin 3) (i2 : Fin 32) (i3 : Fin 512) (i4 : Fin 64) : idx_main_v86 (ix5 i0 i1 i2 i3 i4) = ix4 i1 i2 i3 i4 :=
  funext fun (a : Fin 4) => match a with | 0 => rfl | 1 => rfl | 2 => rfl | 3 => rfl
theorem e_idx_main_v87 (i0 : Fin 16) (i1 : Fin 3) (i2 : Fin 32) (i3 : Fin 512) (i4 : Fin 64) : idx_main_v87 (ix5 i0 i1 i2 i3 i4) = ix5 0 i1 i2 i3 i4 :=
  funext fun (a : Fin 5) => match a with | 0 => rfl | 1 => rfl | 2 => rfl | 3 => rfl | 4 => rfl
theorem e_idx_main_v90 (i0 : Fin 1) (i1 : Fin 3) (i2 : Fin 32) (i3 : Fin 512) (i4 : Fin 64) : idx_main_v90 (ix5 i0 i1 i2 i3 i4) = ix4 i1 i2 i3 i4 :=
  funext fun (a : Fin 4) => match a with | 0 => rfl | 1 => rfl | 2 => rfl | 3 => rfl
theorem e_idx_main_v92 (i0 : Fin 16) (i1 : Fin 3) (i2 : Fin 32) (i3 : Fin 512) (i4 : Fin 64) : idx_main_v92 (ix5 i0 i1 i2 i3 i4) = ix5 0 i1 i2 i3 i4 :=
  funext fun (a : Fin 5) => match a with | 0 => rfl | 1 => rfl | 2 => rfl | 3 => rfl | 4 => rfl
theorem e_idx_main_v94 (i0 : Fin 16) (i1 : Fin 3) (i2 : Fin 32) (i3 : Fin 512) (k : Fin 64) : idx_main_v94 (ix4 i0 i1 i2 i3) k = ix5 i0 i1 i2 i3 k :=
  funext fun (a : Fin 5) => match a with | 0 => rfl | 1 => rfl | 2 => rfl | 3 => rfl | 4 => rfl
theorem e_idx_main_v95 (i0 : Fin 1) (i1 : Fin 3) (i2 : Fin 1) (i3 : Fin 512) : idx_main_v95 (ix4 i0 i1 i2 i3) = ix2 i1 i3 :=
  funext fun (a : Fin 2) => match a with | 0 => rfl | 1 => rfl
theorem e_idx_main_call7_v1 (i0 : Fin 16) (i1 : Fin 3) (i2 : Fin 32) (i3 : Fin 512) : idx_main_call7_v1 (ix4 i0 i1 i2 i3) = ix4 0 i1 0 i3 :=
  funext fun (a : Fin 4) => match a with | 0 => rfl | 1 => rfl | 2 => rfl | 3 => rfl
theorem e_idx_main_v97 (i0 : Fin 3) (i1 : Fin 32) (i2 : Fin 512) (i3 : Fin 16) : idx_main_v97 (ix4 i0 i1 i2 i3) = ix4 i3 i0 i1 i2 :=
  funext fun (a : Fin 4) => match a with | 0 => rfl | 1 => rfl | 2 => rfl | 3 => rfl
theorem e_idx_main_v101 (i0 : Fin 3) (i1 : Fin 1) (i2 : Fin 512) : idx_main_v101 (ix3 i0 i1 i2) = ix2 i0 i2 :=
  funext fun (a : Fin 2) => match a with | 0 => rfl | 1 => rfl
theorem e_idx_main_v102 (i0 : Fin 3) (i1 : Fin 1) (i2 : Fin 1) : idx_main_v102 (ix3 i0 i1 i2) = ix1 i0 :=
  funext fun (a : Fin 1) => match a with | 0 => rfl
theorem e_idx_main_v103 (i0 : Fin 3) (i1 : Fin 32) (i2 : Fin 512) : idx_main_v103 (ix3 i0 i1 i2) = ix3 i0 0 0 :=
  funext fun (a : Fin 3) => match a with | 0 => rfl | 1 => rfl | 2 => rfl
theorem e_idx_main_call8_v1 (i0 : Fin 3) (i1 : Fin 32) (i2 : Fin 512) : idx_main_call8_v1 (ix3 i0 i1 i2) = ix3 i0 0 i2 :=
  funext fun (a : Fin 3) => match a with | 0 => rfl | 1 => rfl | 2 => rfl
theorem e_idx_main_v29 (i0 : Fin 3) (i1 : Fin 32) (i2 : Fin 512) : idx_main_v29 (ix3 i0 i1 i2) = ix4 i0 i1 i2 0 :=
  funext fun (a : Fin 4) => Fin.ext (match a with
    | 0 => by show ((i0.val * 32 + i1.val) * 512 + i2.val) / 16384 = i0.val; omega
    | 1 => by show ((i0.val * 32 + i1.val) * 512 + i2.val) / 512 % 32 = i1.val; omega
    | 2 => by show ((i0.val * 32 + i1.val) * 512 + i2.val) / 1 % 512 = i2.val; omega
    | 3 => rfl)

end Cert.Value.Ref

end
-- ==== Proof.Value.RefSoftmax.lean ====
/- The reference's scores, softmax and log-sum-exp at an index. -/
module

public import proofs.«01_k».proof.Proof.Value.RefIdx
public import proofs.«01_k».proof.Proof.Value.Block

@[expose] public section

set_option maxRecDepth 16384

noncomputable section

namespace Cert.Value.Ref

open Cert.ReferenceIdeal Cert.ReferenceIdeal.Read
open Idealize.ShloMosaic Idealize.ShloMosaic.TcCoe

variable (x1 x3 : (⟨S3x512x32, .f32⟩ : BufTy).Contents (Elt Ideal)) (x4 x5 : (⟨S3x512x32x64, .bf16⟩ : BufTy).Contents (Elt Ideal))
  (x6 : (⟨S3, .i32⟩ : BufTy).Contents (Elt Ideal)) (r0 r1 : (⟨S3x512x32x64, .f32⟩ : BufTy).Contents (Elt Ideal))

/-- The scores of query `Q` of batch row `b`, head `h`. -/
def rS (b : Fin 3) (h : Fin 32) (Q : Fin 512) : Fin 512 → EReal :=
  score (x6 (ix1 b)) (fun d => r0 (ix4 b Q h d)) (fun kk d => r1 (ix4 b kk h d)) (x1 (ix3 b Q h)) (fun kk => x3 (ix3 b kk h))

theorem zero_f32 : FloatOps.ofBits (F := Ideal) .f32 0x00000000#32 = (0 : EReal) := by
  show Ideal.ofBits .f32 0x00000000#32 = 0
  simp [Ideal.ofBits, Ideal.ieee]

theorem v6_at (b : Fin 3) (Q : Fin 512) :
    val_main_v6 (F := Ideal) x6 (ix2 b Q) = IntOp.cmpi .slt (BitVec.ofNat 32 Q.val) (x6 (ix1 b)) := by
  rw [val_main_v6_apply, val_main_v4_apply, e_idx_main_v4, val_main_v2_apply, e_idx_main_v2, val_main_v1_apply,
    val_main_v5_apply, e_idx_main_v5, val_main_v3_apply, e_idx_main_v3]
  rfl

theorem v17_at (b : Fin 3) (h : Fin 32) (Q kk : Fin 512) :
    val_main_v17 (F := Ideal) x1 x3 r0 r1 (ix4 b h Q kk)
      = ((∑ d : Fin 64, r1 (ix4 b kk h d) * r0 (ix4 b Q h d)) * x1 (ix3 b Q h) * x3 (ix3 b kk h)) * ((1 / 8 : ℝ) : EReal) := by
  rw [val_main_v17_apply, val_main_v15_apply, val_main_v11_apply, val_main_v7_apply, val_main_v10_apply, e_idx_main_v10,
    val_main_v9_apply, e_idx_main_v9, val_main_v8_apply, e_idx_main_v8, val_main_v14_apply, e_idx_main_v14,
    val_main_v13_apply, e_idx_main_v13, val_main_v12_apply, e_idx_main_v12, val_main_v16_apply, val_main_cst_apply]
  refine congrArg₂ (fun x y : EReal => x * x1 (ix3 b Q h) * x3 (ix3 b kk h) * y) (Finset.sum_congr rfl fun d _ => ?_) ofBits_e
  rw [e_lidx_main_v7, e_ridx_main_v7]
  exact mul_comm (r0 (ix4 b Q h d) : EReal) (r1 (ix4 b kk h d))

theorem v19_at (b : Fin 3) (h : Fin 32) (Q kk : Fin 512) :
    val_main_v19 (F := Ideal) x1 x3 x6 r0 r1 (ix4 b h Q kk) = rS x1 x3 x6 r0 r1 b h Q kk := by
  rw [val_main_v19_apply, val_main_call0_v1_apply, e_idx_main_call0_v1, val_main_v18_apply, e_idx_main_v18, v6_at, v17_at,
    val_main_call0_v2_apply, val_main_call0_v0_apply, val_main_cst_0_apply]
  unfold rS score
  by_cases hk : IntOp.cmpi .slt (BitVec.ofNat 32 kk.val) (x6 (ix1 b)) = 1#1
  · rw [hk, ValueIdx.select_one, if_pos rfl]
  · rw [if_neg hk, ValueIdx.eq_zero_of_ne_one hk, ValueIdx.select_zero]
    exact ofBits_ninf

theorem v20_at (b : Fin 3) (h : Fin 32) (Q : Fin 512) :
    val_main_v20 (F := Ideal) x1 x3 x6 r0 r1 (ix3 b h Q) = mx (rS x1 x3 x6 r0 r1 b h Q) := by
  unfold val_main_v20
  simp only [pointwise]
  simp only [v19_at]
  rw [val_main_cst_1_apply]
  exact congrArg (fun z => Finset.univ.fold max z (rS x1 x3 x6 r0 r1 b h Q)) ofBits_ninf

theorem v21_at (b : Fin 3) (h : Fin 32) (Q : Fin 512) :
    val_main_v21 (F := Ideal) x1 x3 x6 r0 r1 (ix4 b h Q 0) = mx (rS x1 x3 x6 r0 r1 b h Q) := by
  rw [val_main_v21_apply, e_idx_main_v21, v20_at]

theorem v25_at (b : Fin 3) (h : Fin 32) (Q : Fin 512) :
    val_main_v25 (F := Ideal) x1 x3 x6 r0 r1 (ix3 b h Q) = tot (rS x1 x3 x6 r0 r1 b h Q) := by
  rw [val_main_v25_apply, val_main_cst_2_apply]
  refine (congrArg (· + _) (show FloatOps.ofBits (F := Ideal) .f32 0x00000000#32 = (0 : EReal) from zero_f32)).trans ?_
  rw [zero_add]
  refine Finset.sum_congr rfl fun kk _ => ?_
  rw [e_idx_main_v25, val_main_v24_apply, val_main_v23_apply, val_main_v22_apply, e_idx_main_v22, v21_at, v19_at]
  rfl

theorem v27_at (b : Fin 3) (h : Fin 32) (Q : Fin 512) :
    val_main_v27 (F := Ideal) x1 x3 x6 r0 r1 (ix4 b h Q 0) = Ideal.log (tot (rS x1 x3 x6 r0 r1 b h Q)) := by
  rw [val_main_v27_apply, val_main_v26_apply, e_idx_main_v26, v25_at]
  rfl

/-- The probabilities, and the log-sum-exp. -/
theorem v34_at (b : Fin 3) (h : Fin 32) (Q kk : Fin 512) :
    val_main_v34 (F := Ideal) x1 x3 x6 r0 r1 (ix4 b h Q kk) = prob (rS x1 x3 x6 r0 r1 b h Q) kk := by
  rw [val_main_v34_apply, val_main_v33_apply, val_main_v31_apply, val_main_v30_apply, e_idx_main_v30, v21_at, v19_at,
    val_main_v32_apply, e_idx_main_v32, v27_at]
  rfl

theorem v29_at (b : Fin 3) (h : Fin 32) (Q : Fin 512) :
    val_main_v29 (F := Ideal) x1 x3 x6 r0 r1 (ix3 b h Q) = lse (rS x1 x3 x6 r0 r1 b h Q) := by
  rw [val_main_v29_apply, e_idx_main_v29, val_main_v28_apply, v21_at, v27_at]
  rfl

/-- The third result. -/
theorem v105_at (b : Fin 3) (h : Fin 32) (Q : Fin 512) :
    val_main_v105 (F := Ideal) x1 x3 x6 r0 r1 (ix3 b h Q) = gLse (x6 (ix1 b)) Q (rS x1 x3 x6 r0 r1 b h Q) := by
  rw [val_main_v105_apply, val_main_call8_v1_apply, e_idx_main_call8_v1, val_main_v101_apply, e_idx_main_v101, v6_at,
    val_main_v104_apply, v29_at, val_main_v103_apply, e_idx_main_v103, val_main_v102_apply, e_idx_main_v102,
    val_main_v100_apply, val_main_v99_apply, val_main_call8_v2_apply, val_main_call8_v0_apply, val_main_cst_20_apply]
  exact congrArg (Scalar.select _ _) zero_f32

/-- Where the largest score of a row is a real number, the probabilities the reference writes as a log-softmax are the
    exponentials of the scores less their log-sum-exp. -/
theorem prob_eq_exp_lse {n : ℕ} (s : Fin n → EReal) {r : ℝ} (h : mx s = (r : EReal)) (k : Fin n) :
    prob s k = Ideal.exp (s k - lse s) := by
  have e : s k - ((r : EReal) + Ideal.log (tot s)) = (s k - r) - Ideal.log (tot s) := by
    rw [sub_eq_add_neg (s k) ((r : EReal) + _), EReal.neg_add (Or.inl (EReal.coe_ne_bot r)) (Or.inl (EReal.coe_ne_top r)),
      sub_eq_add_neg (-(r : EReal)), ← add_assoc]
    rfl
  unfold prob lse
  rw [h, e]

end Cert.Value.Ref

end
-- ==== Proof.Value.RefRow.lean ====
/- The reference's quantised probabilities, its outputs and its row losses at an index. -/
module

public import proofs.«01_k».proof.Proof.Value.RefSoftmax

@[expose] public section

set_option maxRecDepth 16384

noncomputable section

namespace Cert.Value.Ref

open Cert.ReferenceIdeal Cert.ReferenceIdeal.Read
open Idealize.ShloMosaic Idealize.ShloMosaic.TcCoe

variable (x1 x3 : (⟨S3x512x32, .f32⟩ : BufTy).Contents (Elt Ideal)) (x4 x5 : (⟨S3x512x32x64, .bf16⟩ : BufTy).Contents (Elt Ideal))
  (x6 : (⟨S3, .i32⟩ : BufTy).Contents (Elt Ideal)) (r0 r1 : (⟨S3x512x32x64, .f32⟩ : BufTy).Contents (Elt Ideal))

/-! ## The candidates' steps and bounds -/

theorem v39_at (c : Fin 16) : val_main_v39 (F := Ideal) (ix1 c) = rM c := by
  rw [val_main_v39_apply, val_main_v38_apply, val_main_c_apply, val_main_v37_apply]; rfl
theorem v44_at (c : Fin 16) : val_main_v44 (F := Ideal) (ix1 c) = rInv c := by
  rw [val_main_v44_apply, val_main_v43_apply, val_main_v42_apply, val_main_c_4_apply, val_main_v41_apply,
    val_main_v40_apply, val_main_c_3_apply, v39_at]; rfl
theorem v46_at (c : Fin 16) : val_main_v46 (F := Ideal) (ix1 c) = rD c := by
  rw [val_main_v46_apply, val_main_v45_apply, val_main_cst_5_apply, v44_at]; rfl
theorem v52_at (c : Fin 16) : val_main_v52 (F := Ideal) (ix1 c) = rB c := by
  rw [val_main_v52_apply, val_main_v51_apply, val_main_cst_7_apply, val_main_v50_apply, val_main_v49_apply,
    val_main_v48_apply, val_main_c_6_apply, v39_at]; rfl

/-! ## The codes -/

theorem v59_at (b : Fin 3) (h : Fin 32) (Q kk : Fin 512) :
    val_main_v59 (F := Ideal) x1 x3 x6 r0 r1 (ix4 b h Q kk)
      = rClip (prob (rS x1 x3 x6 r0 r1 b h Q) kk * FloatOps.ofBits (F := Ideal) .f32 0x41000000#32)
        + FloatOps.ofBits (F := Ideal) .f32 0x41000000#32 := by
  rw [val_main_v59_apply, val_main_v58_apply, val_main_cst_11_apply, val_main_v57_apply, val_main_call2_v4_apply,
    val_main_call2_v3_apply, val_main_c_10_apply, val_main_call2_v2_apply, val_main_call2_v1_apply, val_main_call2_v0_apply,
    val_main_c_9_apply, val_main_v56_apply, val_main_v55_apply, v34_at, val_main_v54_apply, val_main_cst_8_apply]
  rfl

theorem v65_at (c : Fin 16) (b : Fin 3) (h : Fin 32) (Q kk : Fin 512) :
    val_main_v65 (F := Ideal) x1 x3 x6 r0 r1 (ix5 c b h Q kk) = rClip (prob (rS x1 x3 x6 r0 r1 b h Q) kk * rInv c) := by
  rw [val_main_v65_apply, val_main_call4_v4_apply, val_main_call4_v3_apply, val_main_c_13_apply, val_main_call4_v2_apply,
    val_main_call4_v1_apply, val_main_call4_v0_apply, val_main_c_12_apply, val_main_v64_apply, val_main_v63_apply,
    val_main_v61_apply, e_idx_main_v61, val_main_v60_apply, e_idx_main_v60, v34_at, val_main_v62_apply, e_idx_main_v62,
    val_main_v47_apply, e_idx_main_v47, v44_at]
  rfl

theorem v72_at (c : Fin 16) (b : Fin 3) (h : Fin 32) (Q kk : Fin 512) :
    val_main_v72 (F := Ideal) x1 x3 x6 r0 r1 (ix5 c b h Q kk) = rCode c (prob (rS x1 x3 x6 r0 r1 b h Q) kk) := by
  rw [val_main_v72_apply, val_main_v71_apply, val_main_v69_apply, val_main_v67_apply, e_idx_main_v67, val_main_v66_apply,
    e_idx_main_v66, v34_at, val_main_v68_apply, e_idx_main_v68, val_main_v53_apply, e_idx_main_v53, v52_at, v65_at,
    val_main_call5_v0_apply, e_idx_main_call5_v0, val_main_v70_apply, e_idx_main_v70, v59_at]
  rfl

/-- The value a code stands for. -/
theorem v81_at (c : Fin 16) (b : Fin 3) (h : Fin 32) (Q kk : Fin 512) :
    val_main_v81 (F := Ideal) x1 x3 x6 r0 r1 (ix5 c b h Q kk) = quantR c (prob (rS x1 x3 x6 r0 r1 b h Q) kk) := by
  rw [val_main_v81_apply, val_main_v75_apply, val_main_v74_apply, v72_at, val_main_v73_apply, val_main_c_14_apply,
    val_main_v80_apply, val_main_v77_apply, v72_at, val_main_v76_apply, val_main_c_15_apply, val_main_call6_v0_apply,
    val_main_cst_16_apply, val_main_call6_v1_apply, e_idx_main_call6_v1, val_main_v79_apply, e_idx_main_v79,
    val_main_v78_apply, v46_at]
  rfl

/-! ## The row losses -/

/-- The reference's row: squared gradients times squared differences of the two outputs, summed. -/
def rRow (c : Fin 16) (P : Fin 512 → EReal) (V : Fin 64 → Fin 512 → EReal) (G : Fin 64 → EReal) : EReal :=
  ∑ d, (G d * G d) * (((∑ kk, V d kk * quantR c (P kk)) - ∑ kk, P kk * V d kk)
    * ((∑ kk, V d kk * quantR c (P kk)) - ∑ kk, P kk * V d kk))

theorem v36_at (b : Fin 3) (h : Fin 32) (Q : Fin 512) (d : Fin 64) :
    val_main_v36 (F := Ideal) x1 x3 x4 x6 r0 r1 (ix4 b h Q d)
      = ∑ kk : Fin 512, prob (rS x1 x3 x6 r0 r1 b h Q) kk * x4 (ix4 b kk h d) := by
  rw [val_main_v36_apply]
  refine Finset.sum_congr rfl fun kk _ => ?_
  rw [e_lidx_main_v36, e_ridx_main_v36, val_main_v35_apply, v34_at]
  rfl

theorem v82_at (b : Fin 3) (h : Fin 32) (d : Fin 64) (c : Fin 16) (Q : Fin 512) :
    val_main_v82 (F := Ideal) x1 x3 x4 x6 r0 r1 (ix5 b h d c Q)
      = ∑ kk : Fin 512, x4 (ix4 b kk h d) * quantR c (prob (rS x1 x3 x6 r0 r1 b h Q) kk) := by
  rw [val_main_v82_apply]
  refine Finset.sum_congr rfl fun kk _ => ?_
  rw [e_lidx_main_v82, e_ridx_main_v82, v81_at]

theorem v94_at (c : Fin 16) (b : Fin 3) (h : Fin 32) (Q : Fin 512) :
    val_main_v94 (F := Ideal) x1 x3 x4 x5 x6 r0 r1 (ix4 c b h Q)
      = rRow c (prob (rS x1 x3 x6 r0 r1 b h Q)) (fun d kk => x4 (ix4 b kk h d)) (fun d => x5 (ix4 b Q h d)) := by
  rw [val_main_v94_apply, val_main_cst_17_apply]
  refine (congrArg (· + _) zero_f32).trans ?_
  rw [zero_add]
  refine Finset.sum_congr rfl fun d _ => ?_
  rw [e_idx_main_v94, val_main_v93_apply, val_main_v92_apply, e_idx_main_v92, val_main_v90_apply, e_idx_main_v90,
    val_main_v89_apply, val_main_v85_apply, val_main_v84_apply, e_idx_main_v84, val_main_v91_apply, val_main_v88_apply,
    val_main_v83_apply, e_idx_main_v83, v82_at, val_main_v87_apply, e_idx_main_v87, val_main_v86_apply, e_idx_main_v86, v36_at]
  rfl

/-- On probabilities the reference's row is the kernel's: the quantisers agree there, and products commute. -/
theorem row_eq (c : Fin 16) (s : Fin 512 → EReal) (V : Fin 64 → Fin 512 → EReal) (G : Fin 64 → EReal) :
    rRow c (prob s) V G = tRow (bB c) (bN c) (bT c) (bT7 c) (prob s) V G := by
  have hq : ∀ kk, quantR c (prob s kk) = quantK (bB c) (bN c) (bT c) (bT7 c) (prob s kk) := fun kk => by
    obtain ⟨-, r, h0, -, hr⟩ := prob_eq s kk
    rw [hr]; exact (quant_eq c h0).symm
  unfold rRow tRow
  refine Finset.sum_congr rfl fun d _ => ?_
  simp only [hq, mul_comm (prob s _) (V d _)]
  ac_rfl

/-- The second result. -/
theorem v97_at (b : Fin 3) (h : Fin 32) (Q : Fin 512) (c : Fin 16) :
    val_main_v97 (F := Ideal) x1 x3 x4 x5 x6 r0 r1 (ix4 b h Q c)
      = gRow (x6 (ix1 b)) Q c (rS x1 x3 x6 r0 r1 b h Q) (fun d kk => x4 (ix4 b kk h d)) (fun d => x5 (ix4 b Q h d)) := by
  rw [val_main_v97_apply, e_idx_main_v97, val_main_v96_apply, val_main_call7_v1_apply, e_idx_main_call7_v1,
    val_main_v95_apply, e_idx_main_v95, v6_at, v94_at, row_eq, val_main_call7_v2_apply, val_main_call7_v0_apply,
    val_main_cst_18_apply]
  exact congrArg (Scalar.select _ _) zero_f32

end Cert.Value.Ref

end
-- ==== Proof.Value.Algebraic.lean ====
/- The value claim: over the reals the kernel's three results are the reference's. -/
module

public import proofs.«01_k».proof.Defs
public import proofs.«01_k».proof.Proof.Value.Run
public import proofs.«01_k».proof.Proof.Value.Widen
public import proofs.«01_k».proof.Proof.Value.RefRow

@[expose] public section

set_option maxRecDepth 16384

noncomputable section

namespace Cert.Value

open Idealize.ShloMosaic Idealize.ShloMosaic.TcCoe Idealize.SL.Sem
open Cert.KernelIdeal (nD τ sig S3x512x32 S3x512x32x64 S3 S3x32x512x16 S3x32x16x512 S3x32x512 S32x16)

variable (m : (ℓ : Loc nD τ sig) → Buf (Elt Ideal) ℓ) (c : Dev nD)

/-! ## The arguments, at the types the reference's stages take -/

abbrev arg0 : S3x512x32x64.Idx → EReal := m ((c.tc : Thread nD τ).loc Cert.KernelIdeal.main_arg0)
abbrev arg1 : S3x512x32.Idx → EReal := m ((c.tc : Thread nD τ).loc Cert.KernelIdeal.main_arg1)
abbrev arg2 : S3x512x32x64.Idx → EReal := m ((c.tc : Thread nD τ).loc Cert.KernelIdeal.main_arg2)
abbrev arg3 : S3x512x32.Idx → EReal := m ((c.tc : Thread nD τ).loc Cert.KernelIdeal.main_arg3)
abbrev arg4 : S3x512x32x64.Idx → EReal := m ((c.tc : Thread nD τ).loc Cert.KernelIdeal.main_arg4)
abbrev arg5 : S3x512x32x64.Idx → EReal := m ((c.tc : Thread nD τ).loc Cert.KernelIdeal.main_arg5)
abbrev arg6 : S3.Idx → BitVec 32 := m ((c.tc : Thread nD τ).loc Cert.KernelIdeal.main_arg6)

/-! ## The row losses and the log-sum-exp -/

theorem rowVal_at (b : Fin 3) (h : Fin 32) (q : Fin 16) (Q : Fin 512) : rowVal m c (ix4 b h q Q)
    = gRow (arg6 m c (ix1 b)) Q q (Ref.rS (arg1 m c) (arg3 m c) (arg6 m c) (arg0 m c) (arg2 m c) b h Q)
        (fun d kk => arg4 m c (ix4 b kk h d)) (fun d => arg5 m c (ix4 b Q h d)) := rfl

theorem rowOut_at (b : Fin 3) (h : Fin 32) (Q : Fin 512) (q : Fin 16) : rowOut m c (ix4 b h Q q) = rowVal m c (ix4 b h q Q) := by
  unfold rowOut
  simp only [pointwise]

theorem row_ref : Cert.ReferenceIdeal.Read.val_main_v97 (F := Ideal) (arg1 m c) (arg3 m c) (arg4 m c) (arg5 m c) (arg6 m c) (arg0 m c) (arg2 m c)
    = rowOut m c := by
  funext j
  rw [eq_ix4 j]
  exact (Ref.v97_at (arg1 m c) (arg3 m c) (arg4 m c) (arg5 m c) (arg6 m c) (arg0 m c) (arg2 m c) (j 0) (j 1) (j 2) (j 3)).trans
    ((rowVal_at m c (j 0) (j 1) (j 3) (j 2)).symm.trans (rowOut_at m c (j 0) (j 1) (j 2) (j 3)).symm)

theorem lseOut_at (b : Fin 3) (h : Fin 32) (Q : Fin 512) : lseOut m c (ix3 b h Q)
    = gLse (arg6 m c (ix1 b)) Q (Ref.rS (arg1 m c) (arg3 m c) (arg6 m c) (arg0 m c) (arg2 m c) b h Q) := by
  have e : (lseOut m c) (ix3 b h Q) = lseVal m c (ix4 b h 0 Q) := by
    unfold lseOut
    simp only [pointwise]
  rw [e]
  rfl

theorem lse_ref : Cert.ReferenceIdeal.Read.val_main_v105 (F := Ideal) (arg1 m c) (arg3 m c) (arg6 m c) (arg0 m c) (arg2 m c)
    = lseOut m c := by
  funext j
  rw [eq_ix3 j]
  exact (Ref.v105_at (arg1 m c) (arg3 m c) (arg6 m c) (arg0 m c) (arg2 m c) (j 0) (j 1) (j 2)).trans
    (lseOut_at m c (j 0) (j 1) (j 2)).symm

/-! ## The total losses: the two programs add the same terms, over arrays with the last two axes exchanged -/

/-- The index a sum over axes 0 and 3 leaves, and the one a sum over axes 0 and 2 leaves. -/
theorem drop_kernel (i : S3x32x16x512.Idx) : Cert.KernelIdeal.Gen.facts.reducesTo_S3x32x16x512_S32x16_d0_3.drop i = ix2 (i 1) (i 2) :=
  funext fun (a : Fin 2) => by fin_cases a <;> rfl
theorem drop_ref (i : S3x32x512x16.Idx) : Cert.ReferenceIdeal.Gen.facts.reducesTo_S3x32x512x16_S32x16_d0_2.drop i = ix2 (i 1) (i 3) :=
  funext fun (a : Fin 2) => by fin_cases a <;> rfl

theorem loss_ref : Cert.ReferenceIdeal.Read.val_main_v98 (F := Ideal) (arg1 m c) (arg3 m c) (arg4 m c) (arg5 m c) (arg6 m c) (arg0 m c) (arg2 m c)
    = lossOut m c := by
  unfold Cert.ReferenceIdeal.Read.val_main_v98 lossOut
  rw [row_ref]
  funext j
  rw [Host.reduceAdd_apply, Host.reduceAdd_apply, Ideal.hostReduceAdd_def, Ideal.hostReduceAdd_def]
  refine congrArg (_ + ·) ?_
  refine Finset.sum_nbij' (fun i => ix4 (i 0) (i 1) (i 3) (i 2)) (fun i => ix4 (i 0) (i 1) (i 3) (i 2)) ?_ ?_ ?_ ?_ ?_
  · intro i hi
    refine Finset.mem_filter.2 ⟨Finset.mem_univ _, ?_⟩
    exact (drop_kernel _).trans ((drop_ref i).symm.trans (Finset.mem_filter.1 hi).2)
  · intro i hi
    refine Finset.mem_filter.2 ⟨Finset.mem_univ _, ?_⟩
    exact (drop_ref _).trans ((drop_kernel i).symm.trans (Finset.mem_filter.1 hi).2)
  · intro i _; exact (eq_ix4 i).symm
  · intro i _; exact (eq_ix4 i).symm
  · intro i _
    exact (congrArg (rowOut m c) (eq_ix4 i)).trans (rowOut_at m c (i 0) (i 1) (i 2) (i 3))

/-! ## The claim -/

open Cert.ReferenceIdeal.Value Cert.ReferenceIdeal.Read in
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨lossOut m, rowOut m, lseOut m, run m trivial ρ, ?_⟩
  refine (θ_run Cert.ReferenceIdeal.defs _ _).mono (fun _ h c => ?_) (Cert.ReferenceIdeal.Value.run m' ρ')
  obtain ⟨h0, h1, h2, h3, h4, h5, h6⟩ := hagree c
  have e0 := (exit_main_v0_0 m' c).trans ((Ref.widened2 m' c).trans h0)
  have e2 := (exit_main_v0_1 m' c).trans ((Ref.widened3 m' c).trans h2)
  have e1 := (exit_main_arg1 m' c).trans h1
  have e3 := (exit_main_arg3 m' c).trans h3
  have e4 := (exit_main_arg4 m' c).trans h4
  have e5 := (exit_main_arg5 m' c).trans h5
  have e6 := (exit_main_arg6 m' c).trans h6
  refine ⟨(h c).1.trans ?_, (h c).2.1.trans ?_, (h c).2.2.1.trans ?_, (h c).2.2.2⟩
  · refine (val_main_v98_eq (Cert.ReferenceIdeal.Value.exitV m' c)).trans ?_
    rw [e0, e1, e2, e3, e4, e5, e6]
    exact loss_ref m c
  · refine (val_main_v97_eq (Cert.ReferenceIdeal.Value.exitV m' c)).trans ?_
    rw [e0, e1, e2, e3, e4, e5, e6]
    exact row_ref m c
  · refine (val_main_v105_eq (Cert.ReferenceIdeal.Value.exitV m' c)).trans ?_
    rw [e0, e1, e2, e3, e6]
    exact lse_ref m c

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Read
public import proofs.«01_k».proof.Proof.Gen.ReferenceIdeal.Run
public import proofs.«01_k».proof.Proof.Kernel.Frame
public import proofs.«01_k».proof.Proof.KernelIdeal.Frame
public import proofs.«01_k».proof.Proof.Value.Algebraic
public import Idealize.ShloMosaic.Adequacy
public import Idealize.ShloMosaic.Init

@[expose] public section

noncomputable section

namespace Cert.Proof

open Idealize.ShloMosaic Idealize.SL.Sem

/-- The three named constants: `1/8 · log₂ e`, `log₂ e` and `ln 2`. -/
theorem preserves : Cert.preserves_Kernel_KernelIdeal :=
  ⟨IdealRules.named_const.statement Cert.KernelIdeal.κ "scale_log2e" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

theorem claim : Cert.Claim :=
  ⟨Cert.Kernel.Gen.facts, Cert.KernelIdeal.Gen.facts, Cert.ReferenceIdeal.Gen.facts,
    fun m ρ _ => Cert.Kernel.Body.frame m ρ trivial,
    fun m ρ _ => Cert.KernelIdeal.Body.frame m ρ trivial,
    fun m ρ _ => Cert.ReferenceIdeal.Gen.frame m ρ,
    preserves,
    Cert.Value.algebraic⟩

end Cert.Proof

end
